-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 512]⟩ ⟨2, ![4096, 512]⟩ 0 4 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 512]⟩ ⟨2, ![4096, 512]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x512 : Shape := ⟨2, ![1024, 512]⟩
abbrev S1x512 : Shape := ⟨2, ![1, 512]⟩
abbrev S4x1x512 : Shape := ⟨3, ![4, 1, 512]⟩
abbrev S4 : Shape := ⟨1, ![4]⟩
abbrev S_ : Shape := ⟨0, ![]⟩
abbrev S512 : Shape := ⟨1, ![512]⟩
abbrev S1 : Shape := ⟨1, ![1]⟩
abbrev S1x1x512 : Shape := ⟨3, ![1, 1, 512]⟩
abbrev S128x128 : Shape := ⟨2, ![128, 128]⟩
abbrev S128x512 : Shape := ⟨2, ![128, 512]⟩

abbrev nBuf : Space → Nat
  | .hbm => 2
  | .vmem => 4
  | .smem => 0
  | _ => 0

abbrev bufTy : (tb : Table) → Fin (tcTables nBuf tb) → BufTy
  | .hbm, ⟨0, _⟩ => ⟨S1024x512, .bf16⟩
  | .hbm, ⟨1, _⟩ => ⟨S1024x512, .bf16⟩
  | .local _ .vmem, ⟨0, _⟩ => ⟨S1024x512, .bf16⟩
  | .local _ .vmem, ⟨1, _⟩ => ⟨S1024x512, .bf16⟩
  | .local _ .vmem, ⟨2, _⟩ => ⟨S1x512, .f32⟩
  | .local _ .vmem, ⟨3, _⟩ => ⟨S4x1x512, .f32⟩
  | _, _ => ⟨S1024x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 2 → Bool
  | ⟨0, _⟩ => false
  | ⟨1, _⟩ => true
  | _ => false

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  (ofTc nBuf bufTy 2 10 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v4 : BitVec 1 := Scalar.cmpi .ne v2 c0_i32
  let v5 : BitVec 32 := Scalar.extui v4
  let c0_i32_0 : BitVec 32 := 0#32
  let v6 : BitVec 1 := Scalar.cmpi .ne v5 c0_i32_0
  v6

def k0_dev1 : Nat :=
  let c0_i32_85 : BitVec 32 := 0#32
  let c0_i32_83 : BitVec 32 := 0#32
  let c1_i32_84 : BitVec 32 := 1#32
  let v160 : BitVec 32 := Scalar.muli c0_i32_83 c1_i32_84
  let v161 : BitVec 32 := Scalar.addi c0_i32_85 v160
  v161.toNat
def k0_cond2 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v7 : BitVec 1 := Scalar.cmpi .ne v2 c1_i32_1
  let v8 : BitVec 32 := Scalar.extui v7
  let c0_i32_2 : BitVec 32 := 0#32
  let v9 : BitVec 1 := Scalar.cmpi .ne v8 c0_i32_2
  v9

def k0_dev2 : Nat :=
  let c0_i32_85 : BitVec 32 := 0#32
  let c1_i32_83 : BitVec 32 := 1#32
  let c1_i32_84 : BitVec 32 := 1#32
  let v160 : BitVec 32 := Scalar.muli c1_i32_83 c1_i32_84
  let v161 : BitVec 32 := Scalar.addi c0_i32_85 v160
  v161.toNat
def k0_cond3 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v10 : BitVec 1 := Scalar.cmpi .ne v2 c2_i32
  let v11 : BitVec 32 := Scalar.extui v10
  let c0_i32_3 : BitVec 32 := 0#32
  let v12 : BitVec 1 := Scalar.cmpi .ne v11 c0_i32_3
  v12

def k0_dev3 : Nat :=
  let c0_i32_85 : BitVec 32 := 0#32
  let c2_i32_83 : BitVec 32 := 2#32
  let c1_i32_84 : BitVec 32 := 1#32
  let v160 : BitVec 32 := Scalar.muli c2_i32_83 c1_i32_84
  let v161 : BitVec 32 := Scalar.addi c0_i32_85 v160
  v161.toNat
def k0_cond4 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v13 : BitVec 1 := Scalar.cmpi .ne v2 c3_i32
  let v14 : BitVec 32 := Scalar.extui v13
  let c0_i32_4 : BitVec 32 := 0#32
  let v15 : BitVec 1 := Scalar.cmpi .ne v14 c0_i32_4
  v15

def k0_dev4 : Nat :=
  let c0_i32_85 : BitVec 32 := 0#32
  let c3_i32_83 : BitVec 32 := 3#32
  let c1_i32_84 : BitVec 32 := 1#32
  let v160 : BitVec 32 := Scalar.muli c3_i32_83 c1_i32_84
  let v161 : BitVec 32 := Scalar.addi c0_i32_85 v160
  v161.toNat
def k0_cond5 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_9 : BitVec 32 := 0#32
  let v24 : BitVec 1 := Scalar.cmpi .eq v2 c0_i32_9
  let v25 : BitVec 32 := Scalar.extui v24
  let c0_i32_10 : BitVec 32 := 0#32
  let v26 : BitVec 1 := Scalar.cmpi .ne v25 c0_i32_10
  v26

def k0_dev5 : Nat :=
  let c0_i32_87 : BitVec 32 := 0#32
  let c1_i32_85 : BitVec 32 := 1#32
  let c1_i32_86 : BitVec 32 := 1#32
  let v160 : BitVec 32 := Scalar.muli c1_i32_85 c1_i32_86
  let v161 : BitVec 32 := Scalar.addi c0_i32_87 v160
  v161.toNat
def k0_cond6 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_11 : BitVec 32 := 0#32
  let v27 : BitVec 1 := Scalar.cmpi .eq v2 c0_i32_11
  let v28 : BitVec 32 := Scalar.extui v27
  let c0_i32_12 : BitVec 32 := 0#32
  let v29 : BitVec 1 := Scalar.cmpi .ne v28 c0_i32_12
  v29

def k0_dev6 : Nat :=
  let c0_i32_87 : BitVec 32 := 0#32
  let c2_i32_85 : BitVec 32 := 2#32
  let c1_i32_86 : BitVec 32 := 1#32
  let v160 : BitVec 32 := Scalar.muli c2_i32_85 c1_i32_86
  let v161 : BitVec 32 := Scalar.addi c0_i32_87 v160
  v161.toNat
def k0_cond7 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_13 : BitVec 32 := 0#32
  let v30 : BitVec 1 := Scalar.cmpi .eq v2 c0_i32_13
  let v31 : BitVec 32 := Scalar.extui v30
  let c0_i32_14 : BitVec 32 := 0#32
  let v32 : BitVec 1 := Scalar.cmpi .ne v31 c0_i32_14
  v32

def k0_dev7 : Nat :=
  let c0_i32_87 : BitVec 32 := 0#32
  let c3_i32_85 : BitVec 32 := 3#32
  let c1_i32_86 : BitVec 32 := 1#32
  let v160 : BitVec 32 := Scalar.muli c3_i32_85 c1_i32_86
  let v161 : BitVec 32 := Scalar.addi c0_i32_87 v160
  v161.toNat
def k0_cond8 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_15 : BitVec 32 := 1#32
  let v33 : BitVec 1 := Scalar.cmpi .eq v2 c1_i32_15
  let v34 : BitVec 32 := Scalar.extui v33
  let c0_i32_16 : BitVec 32 := 0#32
  let v35 : BitVec 1 := Scalar.cmpi .ne v34 c0_i32_16
  v35

def k0_dev8 : Nat :=
  let c0_i32_87 : BitVec 32 := 0#32
  let c2_i32_85 : BitVec 32 := 2#32
  let c1_i32_86 : BitVec 32 := 1#32
  let v160 : BitVec 32 := Scalar.muli c2_i32_85 c1_i32_86
  let v161 : BitVec 32 := Scalar.addi c0_i32_87 v160
  v161.toNat
def k0_cond9 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_17 : BitVec 32 := 1#32
  let v36 : BitVec 1 := Scalar.cmpi .eq v2 c1_i32_17
  let v37 : BitVec 32 := Scalar.extui v36
  let c0_i32_18 : BitVec 32 := 0#32
  let v38 : BitVec 1 := Scalar.cmpi .ne v37 c0_i32_18
  v38

def k0_dev9 : Nat :=
  let c0_i32_87 : BitVec 32 := 0#32
  let c3_i32_85 : BitVec 32 := 3#32
  let c1_i32_86 : BitVec 32 := 1#32
  let v160 : BitVec 32 := Scalar.muli c3_i32_85 c1_i32_86
  let v161 : BitVec 32 := Scalar.addi c0_i32_87 v160
  v161.toNat
def k0_cond10 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_19 : BitVec 32 := 2#32
  let v39 : BitVec 1 := Scalar.cmpi .eq v2 c2_i32_19
  let v40 : BitVec 32 := Scalar.extui v39
  let c0_i32_20 : BitVec 32 := 0#32
  let v41 : BitVec 1 := Scalar.cmpi .ne v40 c0_i32_20
  v41

def k0_dev10 : Nat :=
  let c0_i32_87 : BitVec 32 := 0#32
  let c3_i32_85 : BitVec 32 := 3#32
  let c1_i32_86 : BitVec 32 := 1#32
  let v160 : BitVec 32 := Scalar.muli c3_i32_85 c1_i32_86
  let v161 : BitVec 32 := Scalar.addi c0_i32_87 v160
  v161.toNat
def k0_cond17 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_82_r0 : BitVec 32 := 0#32
  let v161_r0 : BitVec 1 := Scalar.cmpi .ne v2 c0_i32_82_r0
  let v162_r0 : BitVec 32 := Scalar.extui v161_r0
  let c0_i32_83_r0 : BitVec 32 := 0#32
  let v163_r0 : BitVec 1 := Scalar.cmpi .ne v162_r0 c0_i32_83_r0
  v163_r0

def k0_dev11 : Nat :=
  let c0_i32_95_r0 : BitVec 32 := 0#32
  let c0_i32_93_r0 : BitVec 32 := 0#32
  let c1_i32_94_r0 : BitVec 32 := 1#32
  let v173_r0 : BitVec 32 := Scalar.muli c0_i32_93_r0 c1_i32_94_r0
  let v174_r0 : BitVec 32 := Scalar.addi c0_i32_95_r0 v173_r0
  v174_r0.toNat
def k0_cond18 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_84_r0 : BitVec 32 := 1#32
  let v164_r0 : BitVec 1 := Scalar.cmpi .ne v2 c1_i32_84_r0
  let v165_r0 : BitVec 32 := Scalar.extui v164_r0
  let c0_i32_85_r0 : BitVec 32 := 0#32
  let v166_r0 : BitVec 1 := Scalar.cmpi .ne v165_r0 c0_i32_85_r0
  v166_r0

def k0_dev12 : Nat :=
  let c0_i32_95_r0 : BitVec 32 := 0#32
  let c1_i32_93_r0 : BitVec 32 := 1#32
  let c1_i32_94_r0 : BitVec 32 := 1#32
  let v173_r0 : BitVec 32 := Scalar.muli c1_i32_93_r0 c1_i32_94_r0
  let v174_r0 : BitVec 32 := Scalar.addi c0_i32_95_r0 v173_r0
  v174_r0.toNat
def k0_cond19 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_86_r0 : BitVec 32 := 2#32
  let v167_r0 : BitVec 1 := Scalar.cmpi .ne v2 c2_i32_86_r0
  let v168_r0 : BitVec 32 := Scalar.extui v167_r0
  let c0_i32_87_r0 : BitVec 32 := 0#32
  let v169_r0 : BitVec 1 := Scalar.cmpi .ne v168_r0 c0_i32_87_r0
  v169_r0

def k0_dev13 : Nat :=
  let c0_i32_95_r0 : BitVec 32 := 0#32
  let c2_i32_93_r0 : BitVec 32 := 2#32
  let c1_i32_94_r0 : BitVec 32 := 1#32
  let v173_r0 : BitVec 32 := Scalar.muli c2_i32_93_r0 c1_i32_94_r0
  let v174_r0 : BitVec 32 := Scalar.addi c0_i32_95_r0 v173_r0
  v174_r0.toNat
def k0_cond20 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_88_r0 : BitVec 32 := 3#32
  let v170_r0 : BitVec 1 := Scalar.cmpi .ne v2 c3_i32_88_r0
  let v171_r0 : BitVec 32 := Scalar.extui v170_r0
  let c0_i32_89_r0 : BitVec 32 := 0#32
  let v172_r0 : BitVec 1 := Scalar.cmpi .ne v171_r0 c0_i32_89_r0
  v172_r0

def k0_dev14 : Nat :=
  let c0_i32_95_r0 : BitVec 32 := 0#32
  let c3_i32_93_r0 : BitVec 32 := 3#32
  let c1_i32_94_r0 : BitVec 32 := 1#32
  let v173_r0 : BitVec 32 := Scalar.muli c3_i32_93_r0 c1_i32_94_r0
  let v174_r0 : BitVec 32 := Scalar.addi c0_i32_95_r0 v173_r0
  v174_r0.toNat
abbrev stage0_0 : Fin 1 → Memref sig .tc .vmem S1024x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x512 : Shape := ⟨2, ![4096, 512]⟩
abbrev S_ : Shape := ⟨0, ![]⟩

abbrev nBuf : Space → Nat
  | .hbm => 4
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S_, .bf16⟩
  | .hbm, ⟨2, _⟩ => ⟨S_, .bf16⟩
  | .hbm, ⟨3, _⟩ => ⟨S4096x512, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_call0_cst : Ref sig .tc := ⟨.hbm, 1, rfl⟩
abbrev main_call0_call0_v0 : Ref sig .tc := ⟨.hbm, 2, rfl⟩
abbrev main_v0 : Ref sig .tc := ⟨.hbm, 3, rfl⟩

abbrev nD : Nat := 1
abbrev τ : Topo := Topo.v7x

variable {F : FTy → Type} [FloatOps F]
-- ==== Proof.KernelIdeal.Proto.lean ====
/-
# The handshake of the prefix-sum kernel

Every device counts three ready marks on its entry semaphore before it sends anything; it then sends its column
totals to every device to its right, each into the slot numbered after the sender; at its end it waits for its own
transfers and for an exit mark of each other device. This module names the buffers and semaphores, says what each
of them carries (the schedule), and reads the schedule cell by cell.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.ShareLeaves
public import Idealize.ShloMosaic.Lib.Ring
public import Idealize.ShloMosaic.Lib.Tactic

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## Resources: the staging pipeline's rounds, and the handshake's, whose duties are named by the device that pays -/

abbrev UB : Type := URounds (GSem nD τ sig) (Fin 4)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: the given contents, every counter zero. -/
def s₀ : MemSt nD τ sig (Elt F) := ⟨m, fun _ => 0, ρ⟩

/-! ## Buffers -/

/-- The staged input block. -/
abbrev xM : Memref sig .tc .vmem S1024x512 .bf16 := Memref.whole cc0_stg0_0
/-- The staged output block. -/
abbrev oM : Memref sig .tc .vmem S1024x512 .bf16 := Memref.whole cc0_stg1_0
/-- The device's own column totals. -/
abbrev tM : Memref sig .tc .vmem S1x512 .f32 := Memref.whole cc0_scratch0
/-- The four landing rows. -/
abbrev cM : Memref sig .tc .vmem S4x1x512 .f32 := Memref.whole cc0_scratch1

/-- Where landing row `s` starts. -/
abbrev soff (s : Fin 4) : Fin 3 → ℕ := ![s.val, 0, 0]
/-- Landing row `s` lies inside the landing buffer. -/
theorem sinb (s : Fin 4) : ∀ a, soff s a + S1x1x512.size a ≤ S4x1x512.size a := by revert s; decide
/-- The rectangle of landing row `s`. -/
abbrev srect (s : Fin 4) : Rect S4x1x512 := Rect.unit (s := S4x1x512) (soff s) S1x1x512.size (sinb s)
/-- Landing row `s`, as the transfers name it. -/
abbrev slotM (s : Fin 4) : Memref sig .tc .vmem S1x512 .f32 :=
  ((Memref.whole cc0_scratch1 : Memref sig .tc .vmem S4x1x512 .f32).slice (srect s) (fun _ => rfl)).squeeze S1x512 squeezes_S1x1x512_S1x512

/-! ## Semaphores -/

/-- One entry of a four-entry semaphore array. -/
theorem einb (d : Fin 4) : ∀ a, (![d.val] : Fin 1 → ℕ) a + S1.size a ≤ S4.size a := by revert d; decide
/-- The entry semaphore, shared by the whole mesh. -/
abbrev barS : Sem sig := (SemArray.scalar (sig.barrier 0 rfl) : Sems sig S_).sem
/-- The exit semaphore. -/
abbrev endS : Sem sig := (cc0_scoped0 : Sems sig S_).sem
/-- What the transfer to device `d` completes on at its source. -/
abbrev sendS (d : Fin 4) : DmaSem sig := ((cc0_scratch2.slice (Rect.unit (s := S4) ![d.val] S1.size (einb d))).squeeze S_ squeezes_S1_S_ : DmaSems sig S_).sem
/-- What the transfer from device `s` completes on at its target. -/
abbrev recvS (s : Fin 4) : DmaSem sig := ((cc0_scratch3.slice (Rect.unit (s := S4) ![s.val] S1.size (einb s))).squeeze S_ squeezes_S1_S_ : DmaSems sig S_).sem

/-- The ten semaphores of a device's handshake: entry, exit, four of sends, four of receipts. -/
def csem (k : Fin 10) : SemLoc sig :=
  if k.val = 0 then .reg barS else if k.val = 1 then .reg endS
  else if h : k.val < 6 then .dma (sendS ⟨k.val - 2, by omega⟩) else .dma (recvS ⟨k.val - 6, by omega⟩)

abbrev cell (c : Dev nD) (l : SemLoc sig) : GSem nD τ sig := ((c : Thread nD τ), l)
abbrev barCell (c : Dev nD) : GSem nD τ sig := cell c (.reg barS)
abbrev endCell (c : Dev nD) : GSem nD τ sig := cell c (.reg endS)
abbrev sendCell (c : Dev nD) (d : Fin 4) : GSem nD τ sig := cell c (.dma (sendS d))
abbrev recvCell (c : Dev nD) (s : Fin 4) : GSem nD τ sig := cell c (.dma (recvS s))

/-- What a semaphore is for. -/
inductive Role
  | entry | exit | send (d : Fin 4) | recv (s : Fin 4) | other
  deriving DecidableEq

/-- The role of each semaphore. -/
def role (l : SemLoc sig) : Role :=
  if l = .reg barS then .entry else if l = .reg endS then .exit
  else if l = .dma (sendS 0) then .send 0 else if l = .dma (sendS 1) then .send 1
  else if l = .dma (sendS 2) then .send 2 else if l = .dma (sendS 3) then .send 3
  else if l = .dma (recvS 0) then .recv 0 else if l = .dma (recvS 1) then .recv 1
  else if l = .dma (recvS 2) then .recv 2 else if l = .dma (recvS 3) then .recv 3 else .other

/-- The role of the entry semaphore. -/
theorem role_bar : role (.reg barS) = .entry := by decide
/-- The role of the exit semaphore. -/
theorem role_end : role (.reg endS) = .exit := by decide
/-- The role of a send semaphore. -/
theorem role_send (d : Fin 4) : role (.dma (sendS d)) = .send d := by revert d; decide
/-- The role of a receive semaphore. -/
theorem role_recv (s : Fin 4) : role (.dma (recvS s)) = .recv s := by revert s; decide

/-! ## Contents -/

/-- The credit of one transferred row. -/
abbrev N : ℕ := (tM : Memref sig .tc .vmem S1x512 .f32).view.dmaCredit
/-- A transfer's credit is positive. -/
theorem N_pos : 0 < N := View.dmaCredit_pos _ (by decide)

/-- Device `c`'s staged input. -/
def xstg (c : Dev nD) : (cc0_stg0_0 : Ref sig .tc).ty.Contents (Elt F) :=
  (win0_0.blk (0 : Fin 1)).view.read (Elt F) ((s₀ m ρ).mem ((c : Thread nD τ).loc main_arg0))

/-- Device `c`'s column totals. -/
def tot (c : Dev nD) : (cc0_scratch0 : Ref sig .tc).ty.Contents (Elt F) := k0_pay1 (xstg m ρ c)

/-- The share of its totals that device `c` lends the transfer to device `d`. -/
def lend (d : Fin 4) : PosShare TreeShare := ShareLeaves.leaf 2 fullShare d

/-- Landing row `s` of device `c` holding `f`. -/
def slotPts (c : Dev nD) (s : Fin 4) (f : Buf (Elt F) ((slotM s).view.loc (c : Thread nD τ))) : sProp 𝕄 :=
  (slotM s).view.loc (c : Thread nD τ) ↦[(slotM s).view.set]{fullShare} f
/-- Landing row `s` of device `c`, at any contents. -/
def slotAny (c : Dev nD) (s : Fin 4) : sProp 𝕄 := iprop(∃ f, slotPts c s f)
/-- Landing row `s` of device `c` holding device `s`'s totals. -/
def slotFull (c : Dev nD) (s : Fin 4) : sProp 𝕄 :=
  iprop(∃ f, ⌜(slotM s).view.read (Elt F) f = tot m ρ s⌝ ∗ slotPts c s f)
/-- A part of device `c`'s totals. -/
def totPts (c : Dev nD) (q : PosShare TreeShare) : sProp 𝕄 :=
  (tM : Memref sig .tc .vmem S1x512 .f32).view.loc (c : Thread nD τ) ↦[(tM : Memref sig .tc .vmem S1x512 .f32).view.set]{q} tot m ρ c

omit [FloatOps F] in
instance slotPts_storable (c : Dev nD) (s : Fin 4) (f) : BI.Storable (upEmb : UEmb _ 𝕄) (slotPts (F := F) c s f) := by unfold slotPts; infer_instance
omit [FloatOps F] in
instance slotAny_storable (c : Dev nD) (s : Fin 4) : BI.Storable (upEmb : UEmb _ 𝕄) (slotAny (F := F) c s) := by unfold slotAny; infer_instance
instance slotFull_storable (c : Dev nD) (s : Fin 4) : BI.Storable (upEmb : UEmb _ 𝕄) (slotFull (F := F) m ρ c s) := by unfold slotFull; infer_instance
instance totPts_storable (c : Dev nD) (q : PosShare TreeShare) : BI.Storable (upEmb : UEmb _ 𝕄) (totPts (F := F) m ρ c q) := by unfold totPts; infer_instance

/-! ## The schedule -/

/-- What device `d`'s ready mark hands device `c`: `d`'s landing row for `c`, if `c` is to send to `d`. -/
def barPay (c : Dev nD) (d : Fin 4) : sProp 𝕄 := if c < d then slotAny d c else iprop(emp)

omit [FloatOps F] in
instance barPay_storable (c : Dev nD) (d : Fin 4) : BI.Storable (upEmb : UEmb _ 𝕄) (barPay (F := F) c d) := by
  unfold barPay; split <;> infer_instance

/-- Who pays into a semaphore of device `c`, by its role. -/
def payers (c : Dev nD) : Role → Finset (Fin 4)
  | .entry => Finset.univ.erase c
  | .exit => Finset.univ.erase c
  | .send d => if c < d then {0} else ∅
  | .recv s => if s < c then {0} else ∅
  | .other => ∅

/-- How much one payment is. -/
def paid : Role → ℕ
  | .entry => 1
  | .exit => 1
  | _ => N

/-- What a payment carries. -/
def carried (c : Dev nD) (d : Fin 4) : Role → sProp 𝕄
  | .entry => barPay c d
  | .send d' => totPts m ρ c (lend d')
  | .recv s => slotFull m ρ c s
  | _ => iprop(emp)

/-- One round. -/
def handRd : Rounds.Schedule (GSem nD τ sig) (Fin 4) 𝕄 where
  duties g r := if r = 0 ∧ g.1.2 = .tc then payers g.1.1 (role g.2) else ∅
  unitless _ := False
  amount g _ _ := paid (role g.2)
  payload g _ d := carried m ρ g.1.1 d (role g.2)
  amount_pos g _ _ _ := by
    rcases role g.2 with _ | _ | _ | _ | _ <;> first | exact Nat.one_pos | exact N_pos

instance handRd_payload_storable (g : GSem nD τ sig) (r : ℕ) (d : Fin 4) :
    BI.Storable (upEmb : UEmb _ 𝕄) ((handRd (F := F) m ρ).payload g r d) := by
  show BI.Storable upEmb (carried m ρ g.1.1 d (role g.2))
  rcases role g.2 with _ | _ | _ | _ | _ <;> unfold carried <;> infer_instance

/-! ### Read cell by cell -/

/-- Round 0 of a semaphore: who pays it. -/
theorem duties_zero (c : Dev nD) (l : SemLoc sig) : (handRd (F := F) m ρ).duties (cell c l) 0 = payers c (role l) := by
  dsimp only [handRd]; exact if_pos ⟨rfl, rfl⟩
/-- No semaphore has a later round. -/
theorem duties_later (g : GSem nD τ sig) : ∀ r, 1 ≤ r → (handRd (F := F) m ρ).duties g r = ∅ :=
  fun r hr => by dsimp only [handRd]; exact if_neg fun h => by omega
/-- A semaphore nobody pays into has no duty in any round. -/
theorem duties_none (c : Dev nD) (l : SemLoc sig) (h : payers c (role l) = ∅) :
    ∀ r, 0 ≤ r → (handRd (F := F) m ρ).duties (cell c l) r = ∅ := fun r _ => by
  rcases Nat.eq_zero_or_pos r with rfl | hr
  · rw [duties_zero, h]
  · exact duties_later m ρ _ r hr

/-- All the other devices mark the entry. -/
theorem duties_bar (c : Dev nD) : (handRd (F := F) m ρ).duties (barCell c) 0 = Finset.univ.erase c := by rw [duties_zero, role_bar]; rfl
/-- All the other devices mark the exit. -/
theorem duties_end (c : Dev nD) : (handRd (F := F) m ρ).duties (endCell c) 0 = Finset.univ.erase c := by rw [duties_zero, role_end]; rfl
/-- A send semaphore towards a later device is paid once. -/
theorem duties_send {c : Dev nD} {d : Fin 4} (h : c < d) : (handRd (F := F) m ρ).duties (sendCell c d) 0 = {0} := by
  rw [duties_zero, role_send]; exact if_pos h
/-- A receive semaphore of an earlier device is paid once. -/
theorem duties_recv {c : Dev nD} {s : Fin 4} (h : s < c) : (handRd (F := F) m ρ).duties (recvCell c s) 0 = {0} := by
  rw [duties_zero, role_recv]; exact if_pos h
/-- Nothing is sent to an earlier device, or to oneself. -/
theorem payers_send {c : Dev nD} {d : Fin 4} (h : ¬ c < d) : payers c (role (.dma (sendS d))) = ∅ := by rw [role_send]; exact if_neg h
/-- Nothing is received from a later device, or from oneself. -/
theorem payers_recv {c : Dev nD} {s : Fin 4} (h : ¬ s < c) : payers c (role (.dma (recvS s))) = ∅ := by rw [role_recv]; exact if_neg h

/-- An entry mark counts one. -/
theorem amount_bar (c : Dev nD) (d : Fin 4) : (handRd (F := F) m ρ).amount (barCell c) 0 d = 1 := by
  show paid (role (.reg barS)) = 1; rw [role_bar]; rfl
/-- An exit mark counts one. -/
theorem amount_end (c : Dev nD) (d : Fin 4) : (handRd (F := F) m ρ).amount (endCell c) 0 d = 1 := by
  show paid (role (.reg endS)) = 1; rw [role_end]; rfl
/-- A transfer's end at its source counts its credit. -/
theorem amount_send (c : Dev nD) (k d : Fin 4) : (handRd (F := F) m ρ).amount (sendCell c k) 0 d = N := by
  show paid (role (.dma (sendS k))) = N; rw [role_send]; rfl
/-- A transfer's end at its target counts its credit. -/
theorem amount_recv (c : Dev nD) (k d : Fin 4) : (handRd (F := F) m ρ).amount (recvCell c k) 0 d = N := by
  show paid (role (.dma (recvS k))) = N; rw [role_recv]; rfl

/-- An entry mark carries the landing row lent to the waiting device. -/
theorem payload_bar (c : Dev nD) (d : Fin 4) : (handRd (F := F) m ρ).payload (barCell c) 0 d = barPay c d := by
  show carried m ρ c d (role (.reg barS)) = _; rw [role_bar]; rfl
/-- An exit mark carries nothing. -/
theorem payload_end (c : Dev nD) (d : Fin 4) : (handRd (F := F) m ρ).payload (endCell c) 0 d = iprop(emp) := by
  show carried m ρ c d (role (.reg endS)) = _; rw [role_end]; rfl
/-- A transfer's end at its source gives back its share of the totals. -/
theorem payload_send (c : Dev nD) (k d : Fin 4) : (handRd (F := F) m ρ).payload (sendCell c k) 0 d = totPts m ρ c (lend k) := by
  show carried m ρ c d (role (.dma (sendS k))) = _; rw [role_send]; rfl
/-- A transfer's end at its target hands over the row with the sender's totals in it. -/
theorem payload_recv (c : Dev nD) (k d : Fin 4) : (handRd (F := F) m ρ).payload (recvCell c k) 0 d = slotFull m ρ c k := by
  show carried m ρ c d (role (.dma (recvS k))) = _; rw [role_recv]; rfl

/-- A device waits for three entry marks. -/
theorem expect_bar (c : Dev nD) : (handRd (F := F) m ρ).expect (barCell c) 0 = 3 := by
  unfold Schedule.expect Schedule.amountOf
  rw [duties_bar, Finset.sum_congr rfl fun d _ => amount_bar m ρ c d, Finset.sum_const, Finset.card_erase_of_mem (Finset.mem_univ _)]; rfl
/-- A device waits for three exit marks. -/
theorem expect_end (c : Dev nD) : (handRd (F := F) m ρ).expect (endCell c) 0 = 3 := by
  unfold Schedule.expect Schedule.amountOf
  rw [duties_end, Finset.sum_congr rfl fun d _ => amount_end m ρ c d, Finset.sum_const, Finset.card_erase_of_mem (Finset.mem_univ _)]; rfl
/-- A device waits for one transfer at its source. -/
theorem expect_send {c : Dev nD} {d : Fin 4} (h : c < d) : (handRd (F := F) m ρ).expect (sendCell c d) 0 = N := by
  unfold Schedule.expect Schedule.amountOf; rw [duties_send m ρ h, Finset.sum_singleton, amount_send]
/-- A device waits for one transfer at its target. -/
theorem expect_recv {c : Dev nD} {s : Fin 4} (h : s < c) : (handRd (F := F) m ρ).expect (recvCell c s) 0 = N := by
  unfold Schedule.expect Schedule.amountOf; rw [duties_recv m ρ h, Finset.sum_singleton, amount_recv]

omit [FloatOps F] in
/-- Four things, one by one. -/
theorem star4 (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- All that the entry round hands over. -/
theorem rest_bar (c : Dev nD) : bigSep ((handRd (F := F) m ρ).duties (barCell c) 0 \ ∅) (fun d => (handRd (F := F) m ρ).payload (barCell c) 0 d)
    ⊢ iprop(barPay c 0 ∗ barPay c 1 ∗ barPay c 2 ∗ barPay c 3) := by
  rw [Finset.sdiff_empty, duties_bar, ← star4 (F := F) (barPay c), bigSep_univ_at (barPay c) c, bigSep_congr fun d _ => payload_bar m ρ c d,
    show barPay (F := F) c c = iprop(emp) from if_neg (lt_irrefl c)]
  iintro H; isplitr; · iempintro
  iexact H
/-- What the wait for a send collects. -/
theorem rest_send {c : Dev nD} {k : Fin 4} (h : c < k) :
    bigSep ((handRd (F := F) m ρ).duties (sendCell c k) 0 \ ∅) (fun d => (handRd (F := F) m ρ).payload (sendCell c k) 0 d) = totPts m ρ c (lend k) := by
  rw [Finset.sdiff_empty, duties_send m ρ h, bigSep_singleton, payload_send]
/-- What the wait for a landing collects. -/
theorem rest_recv {c : Dev nD} {k : Fin 4} (h : k < c) :
    bigSep ((handRd (F := F) m ρ).duties (recvCell c k) 0 \ ∅) (fun d => (handRd (F := F) m ρ).payload (recvCell c k) 0 d) = slotFull m ρ c k := by
  rw [Finset.sdiff_empty, duties_recv m ρ h, bigSep_singleton, payload_recv]

end Cert.KernelIdealProof

end
-- ==== Proof.KernelIdeal.Dues.lean ====
/-
# What each device owes

At launch a device owes an entry mark and an exit mark to each other device and, to each device at its right, one
row's worth of receipts. The debts are summed so that each step of the body pays the outermost one; a step that only
some devices take pays a guarded debt, which is nothing on the other devices.
-/
module

public import proofs.«01_k».proof.Proof.KernelIdeal.Proto

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A debt of `n` to the semaphore `g`, owed only where `p`. -/
def due (p : Prop) [Decidable p] (g : GSem nD τ sig) (n : ℕ) : CellTallies nD τ sig Unit := if p then tallyAt g () n else 0

/-- Where the condition holds, the debt is owed. -/
theorem due_true {p : Prop} [Decidable p] (h : p) (g : GSem nD τ sig) (n : ℕ) : due p g n = tallyAt g () n := if_pos h
/-- Where the condition fails, nothing is owed. -/
theorem due_false {p : Prop} [Decidable p] (h : ¬ p) (g : GSem nD τ sig) (n : ℕ) : due p g n = 0 := if_neg h
/-- What a debt amounts to at a given semaphore. -/
theorem due_apply (p : Prop) [Decidable p] (g g' : GSem nD τ sig) (n : ℕ) : due p g n g' () = if p ∧ g' = g then n else 0 := by
  unfold due
  by_cases hp : p
  · simp [hp, tallyAt_apply]
  · simp [hp]

/-! ## The debts, in the order they are paid, the last first -/

def owe14 (_ : Dev nD) : CellTallies nD τ sig Unit := 0
def owe13 (c : Dev nD) := owe14 c + due (c ≠ (3 : Fin 4)) (endCell 3) 1
def owe12 (c : Dev nD) := owe13 c + due (c ≠ (2 : Fin 4)) (endCell 2) 1
def owe11 (c : Dev nD) := owe12 c + due (c ≠ (1 : Fin 4)) (endCell 1) 1
def owe10 (c : Dev nD) := owe11 c + due (c ≠ (0 : Fin 4)) (endCell 0) 1
def owe9 (c : Dev nD) := owe10 c + due (c = (2 : Fin 4)) (recvCell 3 2) N
def owe8 (c : Dev nD) := owe9 c + due (c = (1 : Fin 4)) (recvCell 3 1) N
def owe7 (c : Dev nD) := owe8 c + due (c = (1 : Fin 4)) (recvCell 2 1) N
def owe6 (c : Dev nD) := owe7 c + due (c = (0 : Fin 4)) (recvCell 3 0) N
def owe5 (c : Dev nD) := owe6 c + due (c = (0 : Fin 4)) (recvCell 2 0) N
def owe4 (c : Dev nD) := owe5 c + due (c = (0 : Fin 4)) (recvCell 1 0) N
def owe3 (c : Dev nD) := owe4 c + due (c ≠ (3 : Fin 4)) (barCell 3) 1
def owe2 (c : Dev nD) := owe3 c + due (c ≠ (2 : Fin 4)) (barCell 2) 1
def owe1 (c : Dev nD) := owe2 c + due (c ≠ (1 : Fin 4)) (barCell 1) 1
/-- All that device `c` owes at launch. -/
def owe0 (c : Dev nD) := owe1 c + due (c ≠ (0 : Fin 4)) (barCell 0) 1

/-! ## Levels: entry below receipts below exit, everything else below all three -/

def L (g : GSem nD τ sig) : Finset Unit := if g.1.2 = .tc then {()} else ∅
def lv (g : GSem nD τ sig) (_ : Unit) : ℕ :=
  match role g.2 with
  | .entry => 1
  | .recv _ => 2
  | .exit => 3
  | _ => 0

/-- Only the tensor core's semaphores have a level. -/
theorem L_of_ne (g : GSem nD τ sig) (h : g.1.2 ≠ .tc) : L g = ∅ := if_neg h
/-- Every semaphore of a tensor core has one level. -/
theorem L_tc (c : Dev nD) (l : SemLoc sig) : L (cell c l) = {()} := if_pos rfl

/-- The entry semaphore's level. -/
theorem lv_bar (c : Dev nD) : lv (barCell c) () = 1 := by unfold lv; rw [role_bar]
/-- The exit semaphore's level. -/
theorem lv_end (c : Dev nD) : lv (endCell c) () = 3 := by unfold lv; rw [role_end]
/-- A send semaphore's level. -/
theorem lv_send (c : Dev nD) (d : Fin 4) : lv (sendCell c d) () = 0 := by unfold lv; rw [role_send]
/-- A receive semaphore's level. -/
theorem lv_recv (c : Dev nD) (s : Fin 4) : lv (recvCell c s) () = 2 := by unfold lv; rw [role_recv]

/-- Every debt of `O` is to a semaphore above level `n`. -/
def Above (n : ℕ) (O : CellTallies nD τ sig Unit) : Prop := ∀ g, 0 < O g () → g.1.2 = .tc ∧ n < lv g ()

/-- No debt is above every level. -/
theorem above_zero (n : ℕ) : Above n 0 := fun g h => absurd h (Nat.lt_irrefl 0)
/-- One more debt above the level keeps all debts above it. -/
theorem above_add {n : ℕ} {O : CellTallies nD τ sig Unit} (h : Above n O) (p : Prop) [Decidable p] (c : Dev nD) (l : SemLoc sig) (k : ℕ)
    (hl : n < lv (cell c l) ()) : Above n (O + due p (cell c l) k) := fun g hg => by
  rw [Pi.add_apply, Finsupp.add_apply, due_apply] at hg
  by_cases hp : p ∧ g = cell c l
  · rw [hp.2]; exact ⟨rfl, hl⟩
  · rw [if_neg hp, Nat.add_zero] at hg; exact h g hg

omit [FloatOps F] in
/-- A wait below everything owed is allowed. -/
theorem mayWait_above {n : ℕ} {O : CellTallies nD τ sig Unit} (h : Above n O) (c : Dev nD) (l : SemLoc sig) (hl : lv (cell c l) () ≤ n) :
    (levAts L lv : sProp 𝕄) ⊢ MayWait (c : Thread nD τ) l () O :=
  MayOwe.of_cut (L := L) (lev := lv) n (fun p hp => by rw [Finset.mem_singleton.mp hp, L_tc]; exact Finset.mem_singleton_self _)
    (fun g u hg => by cases u; unfold L; rw [if_pos (h g hg).1]; exact Finset.mem_singleton_self _)
    (fun p hp => by rw [Finset.mem_singleton.mp hp]; exact hl)
    (fun g u hg => by cases u; exact (h g hg).2)

/-- The exit debts are above the receipts. -/
theorem above_owe10 (c : Dev nD) : Above 2 (owe10 c) := by
  unfold owe10 owe11 owe12 owe13 owe14
  refine above_add (above_add (above_add (above_add (above_zero 2) _ _ _ _ ?_) _ _ _ _ ?_) _ _ _ _ ?_) _ _ _ _ ?_ <;> rw [lv_end] <;> decide
/-- Debts above a level are above each lower one. -/
theorem Above.mono {n k : ℕ} {O : CellTallies nD τ sig Unit} (h : Above n O) (hk : k ≤ n) : Above k O :=
  fun g hg => ⟨(h g hg).1, lt_of_le_of_lt hk (h g hg).2⟩
/-- After the entry marks, all that is owed is above the entry. -/
theorem above_owe4 (c : Dev nD) : Above 1 (owe4 c) := by
  unfold owe4 owe5 owe6 owe7 owe8 owe9
  refine above_add (above_add (above_add (above_add (above_add (above_add ((above_owe10 c).mono (by decide)) _ _ _ _ ?_) _ _ _ _ ?_) _ _ _ _ ?_)
    _ _ _ _ ?_) _ _ _ _ ?_) _ _ _ _ ?_ <;> rw [lv_recv] <;> decide
/-- All that is owed at launch is above the staging transfers. -/
theorem above_owe0 (c : Dev nD) : Above 0 (owe0 c) := by
  unfold owe0 owe1 owe2 owe3
  refine above_add (above_add (above_add (above_add ((above_owe4 c).mono (by decide)) _ _ _ _ ?_) _ _ _ _ ?_) _ _ _ _ ?_) _ _ _ _ ?_ <;>
    rw [lv_bar] <;> decide

/-! ## What is owed to each device -/

/-- Two semaphores are the same when device and place are. -/
theorem cell_eq_iff {a b : Dev nD} {l l' : SemLoc sig} : cell a l = cell b l' ↔ a = b ∧ l = l' :=
  ⟨fun h => ⟨congrArg (fun g : GSem nD τ sig => g.1.1) h, congrArg Prod.snd h⟩, fun h => by rw [h.1, h.2]⟩
/-- Places with different roles differ. -/
theorem ne_of_role {l l' : SemLoc sig} (h : role l ≠ role l') : l ≠ l' := fun e => h (e ▸ rfl)
/-- The entry semaphore is not the exit semaphore. -/
theorem bar_ne_end : (SemLoc.reg barS : SemLoc sig) ≠ .reg endS := by decide
/-- The exit semaphore is not the entry semaphore. -/
theorem end_ne_bar : (SemLoc.reg endS : SemLoc sig) ≠ .reg barS := by decide
/-- Receive semaphores of different sources differ. -/
theorem recv_inj {s s' : Fin 4} : (SemLoc.dma (recvS s) : SemLoc sig) = .dma (recvS s') ↔ s = s' :=
  ⟨fun h => by have := congrArg role h; rw [role_recv, role_recv] at this; exact Role.recv.inj this, fun h => h ▸ rfl⟩

/-- Device `d`'s debts to one semaphore, one by one. -/
theorem owe0_apply (d : Dev nD) (g : GSem nD τ sig) : owe0 d g () =
    (if d ≠ (3 : Fin 4) ∧ g = endCell 3 then 1 else 0) + (if d ≠ (2 : Fin 4) ∧ g = endCell 2 then 1 else 0) + (if d ≠ (1 : Fin 4) ∧ g = endCell 1 then 1 else 0)
    + (if d ≠ (0 : Fin 4) ∧ g = endCell 0 then 1 else 0) + (if d = (2 : Fin 4) ∧ g = recvCell 3 2 then N else 0) + (if d = (1 : Fin 4) ∧ g = recvCell 3 1 then N else 0)
    + (if d = (1 : Fin 4) ∧ g = recvCell 2 1 then N else 0) + (if d = (0 : Fin 4) ∧ g = recvCell 3 0 then N else 0) + (if d = (0 : Fin 4) ∧ g = recvCell 2 0 then N else 0)
    + (if d = (0 : Fin 4) ∧ g = recvCell 1 0 then N else 0) + (if d ≠ (3 : Fin 4) ∧ g = barCell 3 then 1 else 0) + (if d ≠ (2 : Fin 4) ∧ g = barCell 2 then 1 else 0)
    + (if d ≠ (1 : Fin 4) ∧ g = barCell 1 then 1 else 0) + (if d ≠ (0 : Fin 4) ∧ g = barCell 0 then 1 else 0) := by
  unfold owe0 owe1 owe2 owe3 owe4 owe5 owe6 owe7 owe8 owe9 owe10 owe11 owe12 owe13 owe14
  simp only [Pi.add_apply, Finsupp.add_apply, due_apply, Pi.zero_apply, Finsupp.zero_apply, Nat.zero_add]

/-- Three entry marks are owed to each device, -/
theorem owed_bar (c : Dev nD) : (∑ d : Dev nD, owe0 d (barCell c) ()) = 3 := by
  simp only [owe0_apply, cell_eq_iff, bar_ne_end, reduceCtorEq, and_false, and_true, if_false, Nat.zero_add]
  revert c; decide
/-- three exit marks, -/
theorem owed_end (c : Dev nD) : (∑ d : Dev nD, owe0 d (endCell c) ()) = 3 := by
  simp only [owe0_apply, cell_eq_iff, end_ne_bar, reduceCtorEq, and_false, and_true, if_false, Nat.zero_add, Nat.add_zero]
  revert c; decide
/-- and a row from each device at its left. -/
theorem owed_recv (c : Dev nD) (s : Fin 4) : (∑ d : Dev nD, owe0 d (recvCell c s) ()) = if s < c then N else 0 := by
  simp only [owe0_apply, cell_eq_iff, recv_inj, reduceCtorEq, and_false, if_false, Nat.zero_add, Nat.add_zero]
  generalize N = n
  rw [Finset.sum_add_distrib, Finset.sum_add_distrib, Finset.sum_add_distrib, Finset.sum_add_distrib, Finset.sum_add_distrib]
  simp only [ite_and, Finset.sum_ite_eq', Finset.mem_univ, if_true]
  fin_cases c <;> fin_cases s <;> simp <;> first | rfl | exact Nat.zero_add n | exact fun h => absurd h (by decide)

end Cert.KernelIdealProof

end
-- ==== Proof.KernelIdeal.Steps.lean ====
/-
# One step of the handshake at a time

A guarded step is taken by some devices and skipped by the others. Each theorem here states such a step once for
every device: what it holds before and after depends on the guard alone.
-/
module

public import proofs.«01_k».proof.Proof.KernelIdeal.Dues

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-! ## The records every device reads -/

/-- The ten semaphores of each device, numbered. -/
abbrev kcell (ck : Dev nD × Fin 10) : GSem nD τ sig := cell ck.1 (csem ck.2)

/-- Every handshake semaphore follows the schedule, and has reached its only round. -/
def records (K : Dev nD × Fin 10 → ℕ) : sProp 𝕄 :=
  iprop((bigSep Finset.univ fun ck : Dev nD × Fin 10 => cellInv ER (handRd m ρ) (K ck) (kcell ck))
    ∗ bigSep Finset.univ fun ck : Dev nD × Fin 10 => reached ER (kcell ck) 0)

instance records_persistent (K : Dev nD × Fin 10 → ℕ) : BI.Persistent (records m ρ K) := by unfold records; infer_instance

variable (K : Dev nD × Fin 10 → ℕ)

/-- The record of one semaphore, taken from those of all. -/
theorem inv_of (c : Dev nD) {l : SemLoc sig} (k : Fin 10) (h : csem k = l) :
    records m ρ K ⊢ cellInv ER (handRd m ρ) (K (c, k)) (cell c l) := by
  subst h
  have e : (bigSep Finset.univ fun ck : Dev nD × Fin 10 => (cellInv ER (handRd m ρ) (K ck) (kcell ck) : sProp 𝕄))
      ⊢ cellInv ER (handRd m ρ) (K (c, k)) (kcell (c, k)) := bigSep_elim (Finset.mem_univ (c, k))
  unfold records; iintro ⟨HI, -⟩; iapply e; iexact HI
/-- Every semaphore has reached its round 0. -/
theorem reached_of (c : Dev nD) {l : SemLoc sig} (k : Fin 10) (h : csem k = l) :
    records m ρ K ⊢ (reached ER (cell c l) 0 : sProp 𝕄) := by
  subst h
  have e : (bigSep Finset.univ fun ck : Dev nD × Fin 10 => (reached ER (kcell ck) 0 : sProp 𝕄)) ⊢ reached ER (kcell (c, k)) 0 :=
    bigSep_elim (Finset.mem_univ (c, k))
  unfold records; iintro ⟨-, HR⟩; iapply e; iexact HR

/-- The number of the send semaphore for device `d`, and of the receipt semaphore for device `s`. -/
abbrev sendK (d : Fin 4) : Fin 10 := ⟨2 + d.val, by omega⟩
abbrev recvK (s : Fin 4) : Fin 10 := ⟨6 + s.val, by omega⟩
/-- The number of the entry semaphore among the ten. -/
theorem csem_bar : csem 0 = .reg barS := rfl
/-- The number of the exit semaphore among the ten. -/
theorem csem_end : csem 1 = .reg endS := rfl
/-- The numbers of the send semaphores among the ten. -/
theorem csem_send (d : Fin 4) : csem (sendK d) = .dma (sendS d) := by revert d; decide
/-- The numbers of the receive semaphores among the ten. -/
theorem csem_recv (s : Fin 4) : csem (recvK s) = .dma (recvS s) := by revert s; decide

/-- Device `c` owes `O`. -/
def Ow (c : Dev nD) (O : CellTallies nD τ sig Unit) : sProp 𝕄 := iprop(∃ W, owes (c : Thread nD τ) O W)

/-! ## Marks -/

/-- A mark sent to device `n` where the guard holds. -/
def markOp (b : BitVec 1) (n : b = 1#1 → Dev nD) (sm : Sem sig) {α : Type} (k : Prog (TpuEff nD τ sig (Elt F) Λ₀ .tc) α) :
    Prog (TpuEff nD τ sig (Elt F) Λ₀ .tc) α :=
  if h : b = 1#1 then semSignalWord (n h) sm 1#32 >>= fun _ => k else k

/-- A mark paid with what the schedule asks, `R'` kept. -/
theorem mark_step (c s : Dev nD) (b : BitVec 1) (n : b = 1#1 → Dev nD) (sm : Sem sig) (kx : Fin 10) (hkx : csem kx = .reg sm)
    (hb : b = 1#1 ↔ c ≠ s) (hn : ∀ h, n h = s)
    (hd : c ≠ s → c ∈ (handRd (F := F) m ρ).duties (cell s (.reg sm)) 0) (ha : (handRd (F := F) m ρ).amount (cell s (.reg sm)) 0 c = 1)
    (O : CellTallies nD τ sig Unit) (R R' : sProp 𝕄)
    (hR : c ≠ s → R ⊢ iprop((handRd (F := F) m ρ).payload (cell s (.reg sm)) 0 c ∗ R')) (hR' : c = s → R ⊢ R')
    {α : Type} {Q : α → sProp 𝕄} {k : Prog (TpuEff nD τ sig (Elt F) Λ₀ .tc) α} :
    iprop(records m ρ K ∗ Ow c (O + due (c ≠ s) (cell s (.reg sm)) 1) ∗ dutyTok ER (cell s (.reg sm)) 0 c ∗ R)
      ⊢ iprop(((Ow c O ∗ R') -∗ wp frame (wpE (defs₀ (F := F)) 𝒱₀ (c : Thread nD τ) none) Set.univ k Q)
          -∗ wp frame (wpE (defs₀ (F := F)) 𝒱₀ (c : Thread nD τ) none) Set.univ (markOp b n sm k) Q) := by
  unfold Ow markOp
  by_cases hcs : c = s
  · have hb' : ¬ b = 1#1 := fun h => hb.mp h hcs
    rw [dif_neg hb', due_false (fun h => h hcs), add_zero]
    iintro ⟨-, HO, -, HR⟩ Hk
    iapply Hk
    isplitl [HO]; · iexact HO
    iapply (hR' hcs); iexact HR
  · have hb' : b = 1#1 := hb.mpr hcs
    rw [dif_pos hb', hn hb', due_true hcs]
    simp only [semSignalWord, Prog.bind_op, Prog.bind_ret]
    iintro ⟨#Hrec, ⟨%W, HO⟩, Ht, HR⟩ Hk
    ihave HR2 := (hR hcs) $$ HR
    icases HR2 with ⟨Hp, HR'⟩
    iapply (Rounds.wp_signal 𝒱₀ ER (handRd m ρ) (c : Thread nD τ) none (dst := (s : Thread nD τ)) (κ := K (s, kx))
      (d := c) (hd hcs) (ha.trans (by decide)) () O rfl) $$ [HO Ht Hp]
    · isplitr; · iapply (inv_of m ρ K s kx hkx); iexact Hrec
      isplitl [HO]; · iexact HO
      isplitl [Ht]; · iexact Ht
      isplitl [Hp]; · iexact Hp
      iapply (reached_of m ρ K s kx hkx); iexact Hrec
    iintro HO
    iapply Hk
    isplitl [HO]; · iexists W; iexact HO
    iexact HR'

/-- What device `c` keeps of its landing row `s` after its entry mark to `s`. -/
def kept (c : Dev nD) (s : Fin 4) : sProp 𝕄 := if s < c then iprop(emp) else slotAny c s

/-- The entry mark to device `s`: it hands over landing row `s` if `s` is at the left. -/
theorem entry_step (c s : Dev nD) (b : BitVec 1) (n : b = 1#1 → Dev nD) (hb : b = 1#1 ↔ c ≠ s) (hn : ∀ h, n h = s)
    (O : CellTallies nD τ sig Unit) {α : Type} {Q : α → sProp 𝕄} {k : Prog (TpuEff nD τ sig (Elt F) Λ₀ .tc) α} :
    iprop(records m ρ K ∗ Ow c (O + due (c ≠ s) (barCell s) 1) ∗ dutyTok ER (barCell s) 0 c ∗ slotAny c s)
      ⊢ iprop(((Ow c O ∗ kept c s) -∗ wp frame (wpE (defs₀ (F := F)) 𝒱₀ (c : Thread nD τ) none) Set.univ k Q)
          -∗ wp frame (wpE (defs₀ (F := F)) 𝒱₀ (c : Thread nD τ) none) Set.univ (markOp b n barS k) Q) :=
  mark_step m ρ K c s b n barS 0 csem_bar hb hn (fun h => by rw [duties_bar]; exact Finset.mem_erase.mpr ⟨h, Finset.mem_univ _⟩)
    (amount_bar m ρ s c) O _ _
    (fun h => by
      rw [payload_bar]; unfold barPay kept
      by_cases hs : s < c
      · rw [if_pos hs, if_pos hs]; iintro H; isplitl; · iexact H
        iempintro
      · rw [if_neg hs, if_neg hs]; iintro H; isplitr; · iempintro
        iexact H)
    (fun h => by subst h; unfold kept; rw [if_neg (lt_irrefl _)])

/-- The exit mark to device `s`. -/
theorem exit_step (c s : Dev nD) (b : BitVec 1) (n : b = 1#1 → Dev nD) (hb : b = 1#1 ↔ c ≠ s) (hn : ∀ h, n h = s)
    (O : CellTallies nD τ sig Unit) {α : Type} {Q : α → sProp 𝕄} {k : Prog (TpuEff nD τ sig (Elt F) Λ₀ .tc) α} :
    iprop(records m ρ K ∗ Ow c (O + due (c ≠ s) (endCell s) 1) ∗ dutyTok ER (endCell s) 0 c ∗ emp)
      ⊢ iprop(((Ow c O ∗ emp) -∗ wp frame (wpE (defs₀ (F := F)) 𝒱₀ (c : Thread nD τ) none) Set.univ k Q)
          -∗ wp frame (wpE (defs₀ (F := F)) 𝒱₀ (c : Thread nD τ) none) Set.univ (markOp b n endS k) Q) :=
  mark_step m ρ K c s b n endS 1 csem_end hb hn (fun h => by rw [duties_end]; exact Finset.mem_erase.mpr ⟨h, Finset.mem_univ _⟩)
    (amount_end m ρ s c) O _ _
    (fun h => by rw [payload_end]; iintro H; isplitl <;> iempintro)
    (fun h => BI.Entails.refl _)

/-! ## Transfers -/

/-- The transfer of the totals of device `s` to device `d`, made where the guard holds. -/
def sendOp (b : BitVec 1) (n : b = 1#1 → Dev nD) (s d : Fin 4) {α : Type} (k : Prog (TpuEff nD τ sig (Elt F) Λ₀ .tc) α) :
    Prog (TpuEff nD τ sig (Elt F) Λ₀ .tc) α :=
  if h : b = 1#1 then
    Prog.lift (.enqueueDma tM (.remote (Dev.tc (n h)) (slotM s) (.dma (sendS d))) (.dma (recvS s)) (Memref.isWhole_whole _).wordExact
      ((View.wordExact_bits rfl).reshape _ _) ⟨⟨rfl, Or.inl rfl⟩, trivial⟩) >>= fun _ => k
  else k

/-- What device `c` needs for its transfer to device `d`. -/
def sendRes (c : Dev nD) (d : Fin 4) : sProp 𝕄 :=
  iprop(totPts m ρ c (lend d) ∗ barPay c d ∗ dutyTok ER (sendCell c d) 0 0 ∗ dutyTok ER (recvCell d c) 0 0)
/-- The transfer to device `d` as seen by device `c`: made, if `c` is among the first `k`; still to make otherwise. -/
def sendSt (c : Dev nD) (d : Fin 4) (k : ℕ) : sProp 𝕄 := if c.val < k then cred (tallyAt (sendCell c d) () N) else sendRes m ρ c d

/-- A landing row is credited like the totals. -/
theorem credit_slot (s : Fin 4) : (slotM s).view.dmaCredit = N := rfl

/-- The row that a transfer fills holds the sender's totals. -/
theorem filled (d : Dev nD) (s : Fin 4) (fn : Buf (Elt F) ((slotM s).view.loc (d : Thread nD τ))) :
    ((slotM s).view.loc (d : Thread nD τ) ↦[(slotM s).view.set]{fullShare}
        ((slotM s).view.write (Elt F) fn ((tM : Memref sig .tc .vmem S1x512 .f32).view.read (Elt F) (tot m ρ s)) Finset.univ) : sProp 𝕄)
      ⊢ slotFull m ρ d s := by
  unfold slotFull slotPts
  iintro H; iexists _
  isplitr
  rotate_left
  · iexact H
  · ipureintro; exact (View.read_write_univ _ _).trans (View.read_whole _ _)

/-- Device `s`'s transfer to device `d`. -/
theorem send_step (c : Dev nD) (s d : Fin 4) (hsd : s < d) (b : BitVec 1) (n : b = 1#1 → Dev nD) (hb : b = 1#1 ↔ c = s) (hn : ∀ h, n h = d)
    (O : CellTallies nD τ sig Unit) {α : Type} {Q : α → sProp 𝕄} {k : Prog (TpuEff nD τ sig (Elt F) Λ₀ .tc) α} :
    iprop(records m ρ K ∗ Ow c (O + due (c = s) (recvCell d s) N) ∗ sendSt m ρ c d s.val)
      ⊢ iprop(((Ow c O ∗ sendSt m ρ c d (s.val + 1)) -∗ wp frame (wpE (defs₀ (F := F)) 𝒱₀ (c : Thread nD τ) none) Set.univ k Q)
          -∗ wp frame (wpE (defs₀ (F := F)) 𝒱₀ (c : Thread nD τ) none) Set.univ (sendOp b n s d k) Q) := by
  unfold Ow sendOp
  by_cases hcs : c = s
  · subst hcs
    have hb' : b = 1#1 := hb.mpr rfl
    have hn' : n = fun _ => d := funext hn
    subst hn'
    rw [dif_pos hb', due_true rfl]
    unfold sendSt
    rw [if_neg (Nat.lt_irrefl _), if_pos (Nat.lt_succ_self _)]
    unfold sendRes barPay
    rw [if_pos hsd]
    unfold slotAny
    simp only [Prog.lift, Prog.bind_op, Prog.bind_ret]
    iintro ⟨#Hrec, ⟨%W, HO⟩, Htot, ⟨%fn, Hslot⟩, Hts, Htr⟩ Hk
    unfold totPts slotPts
    iapply (Rounds.wp_send_pointsTo 𝒱₀ ER (handRd m ρ) (c : Thread nD τ) none (c' := (d : Thread nD τ)) (src := tM) (dst := slotM c) (sS := .dma (sendS d)) (sem := .dma (recvS c))
      (κ₁ := K (c, sendK d)) (κ₂ := K (d, recvK c))
      (r₁ := 0) (r₂ := 0) (d₁ := 0) (d₂ := 0) (fd := fn)
      (by rw [duties_send m ρ hsd]; exact Finset.mem_singleton_self _) (by rw [duties_recv m ρ hsd]; exact Finset.mem_singleton_self _)
      () () N (credit_slot c) (amount_send m ρ c d 0) (amount_recv m ρ d c 0) O rfl (W := W)
      (by rw [payload_send]; exact BI.Entails.refl _)
      (by rw [payload_recv]; exact filled m ρ d c fn)) $$ [Htot Hslot HO Hts Htr]
    · isplitr; · iapply (inv_of m ρ K c (sendK d) (csem_send d)); iexact Hrec
      isplitr; · iapply (inv_of m ρ K d (recvK c) (csem_recv c)); iexact Hrec
      isplitl [Htot]; · iexact Htot
      isplitl [Hslot]; · iexact Hslot
      isplitl [HO]; · iexact HO
      isplitl [Hts]; · iexact Hts
      isplitr; · iapply (reached_of m ρ K c (sendK d) (csem_send d)); iexact Hrec
      isplitl [Htr]; · iexact Htr
      iapply (reached_of m ρ K d (recvK c) (csem_recv c)); iexact Hrec
    iintro ⟨Hc, HO⟩
    iapply Hk
    isplitl [HO]; · iexists W; iexact HO
    iexact Hc
  · have hb' : ¬ b = 1#1 := fun h => hcs (hb.mp h)
    rw [dif_neg hb', due_false hcs, add_zero]
    have hlt : (c.val < s.val + 1) = (c.val < s.val) := propext
      ⟨fun h => lt_of_le_of_ne (Nat.lt_succ_iff.mp h) fun e => hcs (Fin.ext e), fun h => Nat.lt_succ_of_lt h⟩
    unfold sendSt
    simp only [hlt]
    iintro ⟨-, HO, Hs⟩ Hk
    iapply Hk
    isplitl [HO]; · iexact HO
    iexact Hs

/-! ## Waits -/

/-- A wait for the receipt from device `s`, made where the guard holds. -/
def recvOp (b : BitVec 1) (s : Fin 4) {α : Type} (k : Prog (TpuEff nD τ sig (Elt F) Λ₀ .tc) α) : Prog (TpuEff nD τ sig (Elt F) Λ₀ .tc) α :=
  if h : b = 1#1 then
    Prog.lift (.waitDma2 (recvS s) tM (slotM s) (Memref.isWhole_whole _).wordExact ((View.wordExact_bits rfl).reshape _ _)) >>= fun _ => k
  else k
/-- A wait for the transfer to device `d`, made where the guard holds. -/
def drainOp (b : BitVec 1) (d : Fin 4) {α : Type} (k : Prog (TpuEff nD τ sig (Elt F) Λ₀ .tc) α) : Prog (TpuEff nD τ sig (Elt F) Λ₀ .tc) α :=
  if h : b = 1#1 then
    Prog.lift (.waitDma2 (sendS d) (slotM 0) tM ((View.wordExact_bits rfl).reshape _ _) (Memref.isWhole_whole _).wordExact) >>= fun _ => k
  else k

/-- The receipts owed to device `c` by device `s`. -/
def recvCred (c : Dev nD) (s : Fin 4) : sProp 𝕄 := if s < c then cred (tallyAt (recvCell c s) () N) else iprop(emp)
/-- Landing row `s` of device `c` after the waits: device `s`'s totals if `s` is at the left. -/
def landed (c : Dev nD) (s : Fin 4) : sProp 𝕄 := iprop(∃ f, ⌜s < c → (slotM s).view.read (Elt F) f = tot m ρ s⌝ ∗ slotPts c s f)

/-- The receipt from device `s`; its semaphore is closed. -/
theorem recv_step (c : Dev nD) (s : Fin 4) (b : BitVec 1) (hb : b = 1#1 ↔ s < c) (O : CellTallies nD τ sig Unit) (hO : Above 2 O)
    {α : Type} {Q : α → sProp 𝕄} {k : Prog (TpuEff nD τ sig (Elt F) Λ₀ .tc) α} :
    iprop(records m ρ K ∗ levAts L lv ∗ Ow c O ∗ atPos ER (recvCell c s) 0 ∅ 0 ∗ recvCred c s ∗ kept c s)
      ⊢ iprop(((Ow c O ∗ semVal (recvCell c s) 0 ∗ landed m ρ c s) -∗ wp frame (wpE (defs₀ (F := F)) 𝒱₀ (c : Thread nD τ) none) Set.univ k Q)
          -∗ wp frame (wpE (defs₀ (F := F)) 𝒱₀ (c : Thread nD τ) none) Set.univ (recvOp b s k) Q) := by
  unfold Ow recvOp recvCred kept landed
  by_cases h : s < c
  · rw [dif_pos (hb.mpr h), if_pos h, if_pos h]
    simp only [Prog.lift, Prog.bind_op, Prog.bind_ret]
    iintro ⟨#Hrec, #Hlev, ⟨%W, HO⟩, Hat, Hc, -⟩ Hk
    iapply (Rounds.wp_wait_rest_token 𝒱₀ ER (handRd m ρ) (c : Thread nD τ) none (κ := K (c, recvK s))
      (wpE_waitDma2_eq 𝒱₀ (c : Thread nD τ) none Set.univ) (Set.mem_univ _) () (O := O) (W := W) (R := 0) (m := 0) (T := ∅)
      (by rw [Nat.zero_add, expect_recv m ρ h])) $$ [Hc HO Hat]
    · isplitr; · iapply (inv_of m ρ K c (recvK s) (csem_recv s)); iexact Hrec
      isplitl [Hc]; · iexact Hc
      isplitl [HO]; · iexact HO
      isplitr; · iapply (mayWait_above hO c (.dma (recvS s)) (by rw [lv_recv])); iexact Hlev
      iexact Hat
    iintro ⟨HO, Hat, -, Hpay⟩
    ihave Hp := (Entails.of_eq (rest_recv m ρ h)) $$ Hpay
    imod (Rounds.cell_close ER (handRd m ρ) (Set.mem_univ (K (c, recvK s))) (fun h => h) (R := 0 + 1) (duties_later m ρ (recvCell c s))) $$ [Hat] with Hz
    · isplitr; · iapply (inv_of m ρ K c (recvK s) (csem_recv s)); iexact Hrec
      iexact Hat
    unfold slotFull
    icases Hp with ⟨%f, %hf, Hs⟩
    iapply Hk
    isplitl [HO]; · iexists _; iexact HO
    isplitl [Hz]; · iexact Hz
    iexists f
    isplitr; · ipureintro; exact fun _ => hf
    iexact Hs
  · rw [dif_neg (fun h' => h (hb.mp h')), if_neg h, if_neg h]
    unfold slotAny
    iintro ⟨#Hrec, -, HO, Hat, -, ⟨%f, Hs⟩⟩ Hk
    imod (Rounds.cell_close ER (handRd m ρ) (Set.mem_univ (K (c, recvK s))) (fun h => h) (R := 0) (duties_none m ρ c _ (payers_recv h))) $$ [Hat] with Hz
    · isplitr; · iapply (inv_of m ρ K c (recvK s) (csem_recv s)); iexact Hrec
      iexact Hat
    iapply Hk
    isplitl [HO]; · iexact HO
    isplitl [Hz]; · iexact Hz
    iexists f
    isplitr; · ipureintro; exact fun h' => absurd h' h
    iexact Hs

/-- The end of the transfer to device `d`: the lent part of the totals is back and the semaphore is closed. -/
theorem drain_step (c : Dev nD) (d : Fin 4) (b : BitVec 1) (hb : b = 1#1 ↔ c < d) (O : CellTallies nD τ sig Unit) (hO : Above 2 O)
    {α : Type} {Q : α → sProp 𝕄} {k : Prog (TpuEff nD τ sig (Elt F) Λ₀ .tc) α} :
    iprop(records m ρ K ∗ levAts L lv ∗ Ow c O ∗ atPos ER (sendCell c d) 0 ∅ 0 ∗ sendSt m ρ c d d.val)
      ⊢ iprop(((Ow c O ∗ semVal (sendCell c d) 0 ∗ totPts m ρ c (lend d)) -∗ wp frame (wpE (defs₀ (F := F)) 𝒱₀ (c : Thread nD τ) none) Set.univ k Q)
          -∗ wp frame (wpE (defs₀ (F := F)) 𝒱₀ (c : Thread nD τ) none) Set.univ (drainOp b d k) Q) := by
  unfold Ow drainOp sendSt
  by_cases h : c < d
  · rw [dif_pos (hb.mpr h), if_pos (Fin.lt_def.mp h)]
    simp only [Prog.lift, Prog.bind_op, Prog.bind_ret]
    iintro ⟨#Hrec, #Hlev, ⟨%W, HO⟩, Hat, Hc⟩ Hk
    iapply (Rounds.wp_wait_rest_token 𝒱₀ ER (handRd m ρ) (c : Thread nD τ) none (κ := K (c, sendK d))
      (wpE_waitDma2_eq 𝒱₀ (c : Thread nD τ) none Set.univ) (Set.mem_univ _) () (O := O) (W := W) (R := 0) (m := 0) (T := ∅)
      (by rw [Nat.zero_add, expect_send m ρ h])) $$ [Hc HO Hat]
    · isplitr; · iapply (inv_of m ρ K c (sendK d) (csem_send d)); iexact Hrec
      isplitl [Hc]; · iexact Hc
      isplitl [HO]; · iexact HO
      isplitr; · iapply (mayWait_above hO c (.dma (sendS d)) (by rw [lv_send]; decide)); iexact Hlev
      iexact Hat
    iintro ⟨HO, Hat, -, Hpay⟩
    ihave Hp := (Entails.of_eq (rest_send m ρ h)) $$ Hpay
    imod (Rounds.cell_close ER (handRd m ρ) (Set.mem_univ (K (c, sendK d))) (fun h => h) (R := 0 + 1) (duties_later m ρ (sendCell c d))) $$ [Hat] with Hz
    · isplitr; · iapply (inv_of m ρ K c (sendK d) (csem_send d)); iexact Hrec
      iexact Hat
    iapply Hk
    isplitl [HO]; · iexists _; iexact HO
    isplitl [Hz]; · iexact Hz
    iexact Hp
  · rw [dif_neg (fun h' => h (hb.mp h')), if_neg (fun h' => h (Fin.lt_def.mpr h'))]
    unfold sendRes
    iintro ⟨#Hrec, -, HO, Hat, Hp, -⟩ Hk
    imod (Rounds.cell_close ER (handRd m ρ) (Set.mem_univ (K (c, sendK d))) (fun h => h) (R := 0) (duties_none m ρ c _ (payers_send h))) $$ [Hat] with Hz
    · isplitr; · iapply (inv_of m ρ K c (sendK d) (csem_send d)); iexact Hrec
      iexact Hat
    iapply Hk
    isplitl [HO]; · iexact HO
    isplitl [Hz]; · iexact Hz
    iexact Hp

end Cert.KernelIdealProof

end
-- ==== Proof.KernelIdeal.Blocks.lean ====
/-
# What the kernel computes

The 1024 staged rows are taken in eight blocks of 128. Each block's inclusive prefix sums come from one product with
a triangular matrix of ones; the last row of each product is added to the running carry. At the end one row, the sum
of the totals received from the left, is added to all the rows. This module states these values block by block, and
says what the buffers hold after each block's store.
-/
module

public import proofs.«01_k».proof.Proof.KernelIdeal.Proto
public import Idealize.ShloMosaic.Lib.Pointwise

@[expose] public section

noncomputable section

namespace Cert.KernelIdealProof

open Cert.KernelIdeal Cert.KernelIdeal.Gen

open Idealize.ShloMosaic
open Idealize.ShloMosaic.TcCoe

variable {F : FTy → Type} [FloatOps F]

/-! ## Blocks -/

/-- Row `j` of block `b` (taken round past the last block). -/
def brow (b : ℕ) (j : Fin 128) : Fin 1024 := ⟨(128 * b + j.val) % 1024, Nat.mod_lt _ (by decide)⟩
/-- Block `b` of the staged rows. -/
def blk (x : Vec F S1024x512 .bf16) (b : ℕ) : Vec F S128x512 .bf16 := fun j => x (ix2 (n0 := 1024) (n1 := 512) (brow b (j 0)) (j 1))
/-- The carry before block `b`. -/
def carry (x : Vec F S1024x512 .bf16) : ℕ → FVec F S1x512 .f32
  | 0 => k0_pay3
  | b + 1 => addf (carry x b) (extractStridedSlice S1x512 ![127, 0] (k0_pay7 (blk x b)) slices_S128x512_o127_0_S1x512)
/-- The rows stored for block `b`. -/
def blockOut (x : Vec F S1024x512 .bf16) (b : ℕ) : FVec F S128x512 .bf16 :=
  truncf .bf16 (addf (k0_pay7 (blk x b)) (broadcastTo S128x512 (carry x b) broadcasts_S1x512_S128x512)) bitsLt_bf16_f32
/-- The prefix sums inside the device. -/
def localOut (x : Vec F S1024x512 .bf16) : Vec F S1024x512 .bf16 := fun i =>
  blockOut x ((i 0).val / 128) (ix2 (n0 := 128) (n1 := 512) ⟨(i 0).val % 128, Nat.mod_lt _ (by decide)⟩ (i 1))

/-! The printed payloads are these values. -/

/-- The value stored for block 0 is `blockOut` of block 0. -/
theorem pay_block0 (x : Vec F S1024x512 .bf16) : k0_pay5 (blk x 0) = blockOut x 0 := rfl
/-- The value stored for block 1 is `blockOut` of block 1. -/
theorem pay_block1 (x : Vec F S1024x512 .bf16) : k0_pay8 (blk x 0) (blk x 1) = blockOut x 1 := rfl
/-- The carry handed on after block 0. -/
theorem pay_carry1 (x : Vec F S1024x512 .bf16) : k0_pay6 (blk x 0) = carry x 1 := rfl
/-- The value stored for block 2 is `blockOut` of block 2. -/
theorem pay_block2 (x : Vec F S1024x512 .bf16) : k0_pay11 k0_pay2 (carry x 1) (k0_pay7 (blk x 1)) (blk x 2) = blockOut x 2 := rfl
/-- The value stored for block 3 is `blockOut` of block 3. -/
theorem pay_block3 (x : Vec F S1024x512 .bf16) :
    k0_pay14 k0_pay2 (carry x 1) (k0_pay7 (blk x 1)) (blk x 2) (blk x 3) = blockOut x 3 := rfl
/-- The value stored for block 4 is `blockOut` of block 4. -/
theorem pay_block4 (x : Vec F S1024x512 .bf16) :
    k0_pay17 k0_pay2 (carry x 1) (k0_pay7 (blk x 1)) (blk x 2) (blk x 3) (blk x 4) = blockOut x 4 := rfl
/-- The carry handed on after block 4. -/
theorem pay_carry5 (x : Vec F S1024x512 .bf16) :
    k0_pay18 k0_pay2 (carry x 1) (k0_pay7 (blk x 1)) (blk x 2) (blk x 3) (blk x 4) = carry x 5 := rfl
/-- The value stored for block 5 is `blockOut` of block 5. -/
theorem pay_block5 (x : Vec F S1024x512 .bf16) :
    k0_pay20 k0_pay2 (carry x 1) (k0_pay7 (blk x 1)) (blk x 2) (blk x 3) (blk x 4) (blk x 5) = blockOut x 5 := rfl
/-- The product handed on from block 5. -/
theorem pay_loc5 (x : Vec F S1024x512 .bf16) : k0_pay19 k0_pay2 (blk x 5) = k0_pay7 (blk x 5) := rfl
/-- The value stored for block 6 is `blockOut` of block 6. -/
theorem pay_block6 (x : Vec F S1024x512 .bf16) : k0_pay23 k0_pay2 (carry x 5) (k0_pay7 (blk x 5)) (blk x 6) = blockOut x 6 := rfl
/-- The value stored for block 7 is `blockOut` of block 7. -/
theorem pay_block7 (x : Vec F S1024x512 .bf16) :
    k0_pay24 k0_pay2 (carry x 5) (k0_pay7 (blk x 5)) (blk x 6) (blk x 7) = blockOut x 7 := rfl

/-! ## The buffers, block by block -/

section Rows
variable {o : ℕ} (inb : ∀ a, (![o, 0] : Fin 2 → ℕ) a + S128x512.size a ≤ S1024x512.size a) (b : ℕ) (ho : o = 128 * b)
include inb ho

/-- A block is inside the 1024 rows. -/
theorem block_lt : b < 8 := by
  have h : o + 128 ≤ 1024 := inb 0
  omega

/-- Where a block's row lies. -/
theorem block_emb (j : S128x512.Idx) :
    (Rect.unit (s := S1024x512) ![o, 0] S128x512.size inb).emb j = (ix2 (n0 := 1024) (n1 := 512) (brow b (j 0)) (j 1) : S1024x512.Idx) := by
  have hb := block_lt inb b ho
  have hj : (j 0).val < 128 := (j 0).isLt
  funext a
  apply Fin.ext
  match a with
  | ⟨0, _⟩ =>
    show o + 1 * (j 0).val = (128 * b + (j 0).val) % 1024
    rw [Nat.mod_eq_of_lt (by omega)]; omega
  | ⟨1, _⟩ =>
    show 0 + 1 * (j 1).val = (j 1).val
    omega

/-- A block's load reads the block. -/
theorem read_block (x : Vec F S1024x512 .bf16) :
    (xM.view.readAt (Elt F) (Rect.unit (s := S1024x512) ![o, 0] S128x512.size inb).toLoadRect x : Vec F S128x512 .bf16) = blk x b :=
  funext fun j => congrArg x (block_emb inb b ho j)

/-- The store of block `b`, the earlier blocks being in place, puts `b + 1` blocks in place. -/
theorem write_block (x f : Vec F S1024x512 .bf16) (hf : ∀ i : S1024x512.Idx, (i 0).val < 128 * b → f i = localOut x i)
    (i : S1024x512.Idx) (hi : (i 0).val < 128 * (b + 1)) :
    ((oM.access (Rect.unit (s := S1024x512) ![o, 0] S128x512.size inb)).write (Elt F) f (blockOut x b) Finset.univ : Vec F S1024x512 .bf16) i
      = localOut x i := by
  have hb := block_lt inb b ho
  by_cases h : (i 0).val < 128 * b
  · rw [View.write_of_not_mem]
    · exact hf i h
    · rw [View.setOn_univ]
      intro hm
      have hm' : i ∈ (Rect.unit (s := S1024x512) ![o, 0] S128x512.size inb).set := by
        simpa [Memref.access] using hm
      have := (Rect.mem_set_unit.mp hm' 0).1
      have : o ≤ (i 0).val := this
      omega
  · set j : S128x512.Idx := ix2 (n0 := 128) (n1 := 512) ⟨(i 0).val % 128, Nat.mod_lt _ (by decide)⟩ (i 1) with hj
    have hq : (i 0).val / 128 = b := by omega
    have e : (oM.access (Rect.unit (s := S1024x512) ![o, 0] S128x512.size inb)).emb j = i := by
      refine (block_emb inb b ho j).trans (funext fun a => Fin.ext ?_)
      match a with
      | ⟨0, _⟩ =>
        show (128 * b + (i 0).val % 128) % 1024 = (i 0).val
        rw [Nat.mod_eq_of_lt (by omega)]; omega
      | ⟨1, _⟩ => rfl
    have hw := View.write_emb_of_mem (v := oM.access (Rect.unit (s := S1024x512) ![o, 0] S128x512.size inb)) (Val := Elt F) f (blockOut x b)
      (Finset.mem_univ j)
    rw [e] at hw
    refine hw.trans ?_
    unfold localOut
    rw [hq]
    rfl

end Rows

/-- All eight blocks in place are the local prefix sums. -/
theorem localOut_of_blocks (x f : Vec F S1024x512 .bf16) (hf : ∀ i : S1024x512.Idx, (i 0).val < 128 * 8 → f i = localOut x i) : f = localOut x :=
  funext fun i => hf i (i 0).isLt

/-! ## The rows from the left -/

/-- The totals picked by the guards, added up from the left. -/
def offs (v2 : BitVec 32) (t0 t1 t2 : FVec F S1x512 .f32) : FVec F S1x512 .f32 :=
  addf (addf (addf k0_pay25 (Scalar.select (Scalar.cmpi .sgt v2 0#32) t0 k0_pay25))
    (Scalar.select (Scalar.cmpi .sgt v2 1#32) t1 k0_pay25)) (Scalar.select (Scalar.cmpi .sgt v2 2#32) t2 k0_pay25)
/-- The rows stored at the end. -/
def outOf (o : Vec F S1024x512 .bf16) (w : FVec F S1x512 .f32) : FVec F S1024x512 .bf16 :=
  truncf .bf16 (addf (extf .f32 (shapeCast S1024x512 o shapeCasts_S1024x512_S1024x512) bitsLt_bf16_f32)
    (broadcastTo S1024x512 w broadcasts_S1x512_S1024x512)) bitsLt_bf16_f32

/-- The printed last payload is that. -/
theorem pay_out (v2 : BitVec 32) (a b d : Vec F S1x1x512 .f32) (o : Vec F S1024x512 .bf16) :
    k0_pay27 v2 k0_pay25 (k0_pay26 v2 a) 1#32 b d o
      = outOf o (offs v2 (shapeCast S1x512 a shapeCasts_S1x1x512_S1x512) (shapeCast S1x512 b shapeCasts_S1x1x512_S1x512)
          (shapeCast S1x512 d shapeCasts_S1x1x512_S1x512)) := rfl

/-- Device `c`'s number as the program computes it. -/
def vpos (c : Dev nD) : BitVec 32 := Scalar.remsi (Scalar.divsi (Dev.word c) 1#32) 4#32
/-- The printed comparison of the device's number with `s` tells whether device `s` is at the left. -/
theorem gt_vpos (c : Dev nD) (s : Fin 3) : Scalar.cmpi .sgt (vpos c) (BitVec.ofNat 32 s.val) = 1#1 ↔ s.val < c.val := by
  revert c s; decide

/-- A row that is not from the left is not read. -/
theorem select_left (c : Dev nD) (s : Fin 3) (t u : FVec F S1x512 .f32) (h : s.val < c.val → t = u) :
    Scalar.select (Scalar.cmpi .sgt (vpos c) (BitVec.ofNat 32 s.val)) t k0_pay25
      = Scalar.select (Scalar.cmpi .sgt (vpos c) (BitVec.ofNat 32 s.val)) u (k0_pay25 (F := F)) := by
  by_cases hs : s.val < c.val
  · rw [h hs]
  · have : ¬ Scalar.cmpi .sgt (vpos c) (BitVec.ofNat 32 s.val) = 1#1 := fun h' => hs ((gt_vpos c s).mp h')
    exact (if_neg this).trans (if_neg this).symm

variable (m : (ℓ : Loc nD τ sig) → Buf (Elt F) ℓ) (ρ : Dev nD → PrngReg)

/-- The row added at the end on device `c`. -/
def offAt (c : Dev nD) : FVec F S1x512 .f32 := offs (vpos c) (tot m ρ 0) (tot m ρ 1) (tot m ρ 2)
/-- The output block of device `c`. -/
def outAt (c : Dev nD) : Vec F S1024x512 .bf16 := outOf (localOut (xstg m ρ c)) (offAt m ρ c)

/-- The added row, from landing rows that hold the totals of the devices at the left. -/
theorem offs_left (c : Dev nD) (t0 t1 t2 : FVec F S1x512 .f32) (h0 : (0 : Fin 4) < c → t0 = tot m ρ 0)
    (h1 : (1 : Fin 4) < c → t1 = tot m ρ 1) (h2 : (2 : Fin 4) < c → t2 = tot m ρ 2) : offs (vpos c) t0 t1 t2 = offAt m ρ c := by
  unfold offs offAt offs
  rw [show (0#32 : BitVec 32) = BitVec.ofNat 32 (0 : Fin 3).val from rfl, show (1#32 : BitVec 32) = BitVec.ofNat 32 (1 : Fin 3).val from rfl,
    show (2#32 : BitVec 32) = BitVec.ofNat 32 (2 : Fin 3).val from rfl,
    select_left c 0 t0 _ fun h => h0 (Fin.lt_def.mpr h), select_left c 1 t1 _ fun h => h1 (Fin.lt_def.mpr h),
    select_left c 2 t2 _ fun h => h2 (Fin.lt_def.mpr h)]

/-- A load of a landing row, its axis of length one dropped, reads what the transfers wrote there. -/
theorem read_slot (s : Fin 4) (f : Vec F S4x1x512 .f32) :
    (shapeCast S1x512 (cM.view.readAt (Elt F) (srect s).toLoadRect f : Vec F S1x1x512 .f32) shapeCasts_S1x1x512_S1x512 : FVec F S1x512 .f32)
      = (slotM s).view.read (Elt F) f := rfl

end Cert.KernelIdealProof

end
-- ==== Proof.KernelIdeal.Parts.lean ====
/-
# The kernel's parts as chains of steps

The printed parts are written again as chains of the guarded steps and of block steps; in sequence they are the
printed kernel.
-/
module

public import proofs.«01_k».proof.Proof.KernelIdeal.Steps
public import proofs.«01_k».proof.Proof.KernelIdeal.Blocks

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- Programs of the kernel. -/
abbrev KProg (F : FTy → Type) [FloatOps F] (α : Type) : Type 1 := Prog (TpuEff nD τ sig (Elt F) Λ₀ .tc) α

/-- A whole rectangle of the staged blocks, and of the totals. -/
abbrev rX : Rect S1024x512 := Rect.unit (s := S1024x512) ![0, 0] S1024x512.size inb_S1024x512_S1024x512_0_0
abbrev rT : Rect S1x512 := Rect.unit (s := S1x512) ![0, 0] S1x512.size inb_S1x512_S1x512_0_0

/-- The rows from `o` on, 128 of them. -/
abbrev rB (o : ℕ) (inb : ∀ a, (![o, 0] : Fin 2 → ℕ) a + S128x512.size a ≤ S1024x512.size a) : Rect S1024x512 :=
  Rect.unit (s := S1024x512) ![o, 0] S128x512.size inb

/-- One block: its rows loaded, the rows computed from them stored at the same place. -/
def blockOp (o : ℕ) (inb : ∀ a, (![o, 0] : Fin 2 → ℕ) a + S128x512.size a ≤ S1024x512.size a)
    (hst : (oM.access (rB o inb)).Stores Finset.univ) (w : Vec F S128x512 .bf16 → FVec F S128x512 .bf16) {α : Type}
    (k : Vec F S128x512 .bf16 → KProg F α) : KProg F α :=
  Prog.lift (.load xM (rB o inb).toLoadRect (View.loadsAt_vmem h_S128x512)) >>= fun v =>
  Prog.lift (.load oM (rB o inb).toLoadRect (View.loadsAt_vmem h_S128x512)) >>= fun _ =>
  Prog.lift (.store oM (rB o inb) (w v) Finset.univ hst (.inl rfl)) >>= fun _ => k v

/-- A landing row loaded. -/
def slotOp (s : Fin 4) {α : Type} (k : Vec F S1x1x512 .f32 → KProg F α) : KProg F α :=
  Prog.lift (.load cM (srect s).toLoadRect (View.loadsAt_vmem h_S1x1x512)) >>= k

/-- A wait of three marks. -/
def waitOp (sm : Sem sig) {α : Type} (k : KProg F α) : KProg F α := semWaitWord sm 3#32 >>= fun _ => k

/-- The column totals computed from the staged input and stored. -/
def totalsOp {α : Type} (k : KProg F α) : KProg F α :=
  Prog.lift (.load xM rX.toLoadRect (View.loadsAt_vmem h_S1024x512)) >>= fun v16 =>
  Prog.lift (.load tM rT.toLoadRect (View.loadsAt_vmem h_S1x512)) >>= fun _ =>
  Prog.lift (.store tM rT (k0_pay1 v16) Finset.univ (View.stores_vmem_bits_univ h_S1x512 rfl) (.inl rfl)) >>= fun _ => k

/-- The staged output rewritten by `w`. -/
def finalOp (w : Vec F S1024x512 .bf16 → FVec F S1024x512 .bf16) {α : Type} (k : KProg F α) : KProg F α :=
  Prog.lift (.load oM rX.toLoadRect (View.loadsAt_vmem h_S1024x512)) >>= fun v144 =>
  Prog.lift (.load oM rX.toLoadRect (View.loadsAt_vmem h_S1024x512)) >>= fun _ =>
  Prog.lift (.store oM rX (w v144) Finset.univ
    (View.stores_vmem h_S1024x512 ((Memref.isWhole_whole _).storeExact_slice rfl _ packedbf16_S1024x512_S1024x512_0_0) (fun _ => rfl)) (.inl rfl)) >>= fun _ => k

/-- The guard `s` below the device's number, and the guard of the waits at the end. -/
abbrev isGt (v2 s : BitVec 32) : BitVec 1 := Scalar.cmpi .ne (Scalar.extui (Scalar.cmpi .sgt v2 s) : BitVec 32) 0#32
abbrev isLt (v2 d : BitVec 32) : BitVec 1 := Scalar.cmpi .ne (Scalar.extui (Scalar.cmpi .slt v2 d) : BitVec 32) 0#32

/-- Evidence that a block's store is allowed. -/
theorem stores_block {o : ℕ} {inb : ∀ a, (![o, 0] : Fin 2 → ℕ) a + S128x512.size a ≤ S1024x512.size a}
    (h : (rB o inb).PackedRows (EltTy.packing .bf16)) : (oM.access (rB o inb)).Stores Finset.univ :=
  View.stores_vmem h_S128x512 ((Memref.isWhole_whole _).storeExact_slice rfl _ h) (fun _ => rfl)

/-- The entry, the totals, the first two transfers. -/
def chain1 : KProg F (Σ' (d0 : Dev nD), BitVec 32) :=
  Prog.lift .deviceId >>= fun d0 =>
  markOp (k0_cond1 d0) (fun h => ⟨k0_dev1, k0_dev1_lt d0 h⟩) barS <|
  markOp (k0_cond2 d0) (fun h => ⟨k0_dev2, k0_dev2_lt d0 h⟩) barS <|
  markOp (k0_cond3 d0) (fun h => ⟨k0_dev3, k0_dev3_lt d0 h⟩) barS <|
  markOp (k0_cond4 d0) (fun h => ⟨k0_dev4, k0_dev4_lt d0 h⟩) barS <|
  waitOp barS <| totalsOp <|
  sendOp (k0_cond5 d0) (fun h => ⟨k0_dev5, k0_dev5_lt d0 h⟩) 0 1 <|
  sendOp (k0_cond6 d0) (fun h => ⟨k0_dev6, k0_dev6_lt d0 h⟩) 0 2 <|
  pure ⟨d0, vpos d0⟩

/-- The other transfers, and two blocks. -/
def chain2 (d0 : Dev nD) : KProg F (Σ' (v47 : FVec F S128x128 .bf16) (v57 : FVec F S1x512 .f32), FVec F S128x512 .f32) :=
  sendOp (k0_cond7 d0) (fun h => ⟨k0_dev7, k0_dev7_lt d0 h⟩) 0 3 <|
  sendOp (k0_cond8 d0) (fun h => ⟨k0_dev8, k0_dev8_lt d0 h⟩) 1 2 <|
  sendOp (k0_cond9 d0) (fun h => ⟨k0_dev9, k0_dev9_lt d0 h⟩) 1 3 <|
  sendOp (k0_cond10 d0) (fun h => ⟨k0_dev10, k0_dev10_lt d0 h⟩) 2 3 <|
  blockOp 0 inb_S1024x512_S128x512_0_0 (stores_block packedbf16_S1024x512_S128x512_0_0) k0_pay5 fun v49 =>
  blockOp 128 inb_S1024x512_S128x512_128_0 (stores_block packedbf16_S1024x512_S128x512_128_0) (k0_pay8 v49) fun v58 =>
  pure ⟨k0_pay2 (F := F), k0_pay6 v49, k0_pay7 v58⟩

/-- Four blocks. -/
def chain3 (v47 : FVec F S128x128 .bf16) (v57 : FVec F S1x512 .f32) (v60 : FVec F S128x512 .f32) :
    KProg F (Σ' (v93 : FVec F S1x512 .f32), FVec F S128x512 .f32) :=
  blockOp 256 inb_S1024x512_S128x512_256_0 (stores_block packedbf16_S1024x512_S128x512_256_0) (k0_pay11 v47 v57 v60) fun v67 =>
  blockOp 384 inb_S1024x512_S128x512_384_0 (stores_block packedbf16_S1024x512_S128x512_384_0) (k0_pay14 v47 v57 v60 v67) fun v76 =>
  blockOp 512 inb_S1024x512_S128x512_512_0 (stores_block packedbf16_S1024x512_S128x512_512_0) (k0_pay17 v47 v57 v60 v67 v76) fun v85 =>
  blockOp 640 inb_S1024x512_S128x512_640_0 (stores_block packedbf16_S1024x512_S128x512_640_0) (k0_pay20 v47 v57 v60 v67 v76 v85) fun v94 =>
  pure ⟨k0_pay18 v47 v57 v60 v67 v76 v85, k0_pay19 v47 v94⟩

/-- The last two blocks, the receipts, the first landing row. -/
def chain4 (v2 : BitVec 32) (v47 : FVec F S128x128 .bf16) (v93 : FVec F S1x512 .f32) (v96 : FVec F S128x512 .f32) :
    KProg F (Σ' (v128 : FVec F S1x512 .f32) (v133 : FVec F S1x512 .f32), BitVec 32) :=
  blockOp 768 inb_S1024x512_S128x512_768_0 (stores_block packedbf16_S1024x512_S128x512_768_0) (k0_pay23 v47 v93 v96) fun v103 =>
  blockOp 896 inb_S1024x512_S128x512_896_0 (stores_block packedbf16_S1024x512_S128x512_896_0) (k0_pay24 v47 v93 v96 v103) fun v112 =>
  recvOp (isGt v2 0#32) 0 <| recvOp (isGt v2 1#32) 1 <| recvOp (isGt v2 2#32) 2 <|
  slotOp 0 fun v130 => pure ⟨k0_pay25 (F := F), k0_pay26 v2 v130, 1#32⟩

/-- The other landing rows, the last store, the ends of the transfers, two exit marks. -/
def chain5 (d0 : Dev nD) (v2 : BitVec 32) (v128 : FVec F S1x512 .f32) (v133 : FVec F S1x512 .f32) (c1 : BitVec 32) : KProg F (BitVec 32) :=
  slotOp 1 fun v135 => slotOp 2 fun v140 =>
  finalOp (k0_pay27 v2 v128 v133 c1 v135 v140) <|
  drainOp (isLt v2 1#32) 1 <| drainOp (isLt v2 2#32) 2 <| drainOp (isLt v2 3#32) 3 <|
  markOp (k0_cond17 d0) (fun h => ⟨k0_dev11, k0_dev11_lt d0 h⟩) endS <|
  markOp (k0_cond18 d0) (fun h => ⟨k0_dev12, k0_dev12_lt d0 h⟩) endS <|
  pure 2#32

/-- The last exit marks and the exit. -/
def chain6 (d0 : Dev nD) : KProg F PUnit :=
  markOp (k0_cond19 d0) (fun h => ⟨k0_dev13, k0_dev13_lt d0 h⟩) endS <|
  markOp (k0_cond20 d0) (fun h => ⟨k0_dev14, k0_dev14_lt d0 h⟩) endS <|
  waitOp endS <| pure ⟨⟩

/-- The parts in sequence. -/
def chain : KProg F PUnit :=
  chain1 >>= fun r1 => chain2 r1.1 >>= fun r2 => chain3 r2.1 r2.2.1 r2.2.2 >>= fun r3 => chain4 r1.2 r2.1 r3.1 r3.2 >>= fun r4 =>
  chain5 r1.1 r1.2 r4.1 r4.2.1 r4.2.2 >>= fun _ => chain6 r1.1

set_option maxRecDepth 65536 in
/-- The kernel is its parts in sequence. -/
theorem body_eq : cc0_body (F := F) xM (Memref.isWhole_whole _) oM (Memref.isWhole_whole _) tM (Memref.isWhole_whole _) cM (Memref.isWhole_whole _)
    cc0_scratch2 cc0_scratch3 cc0_scoped0 = chain := rfl

end Cert.KernelIdealProof

end
-- ==== Proof.KernelIdeal.Memory.lean ====
/-
# The unguarded steps

Loads and stores of the staged blocks, of the totals and of the landing rows, and the waits for three marks.
-/
module

public import proofs.«01_k».proof.Proof.KernelIdeal.Parts

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × Fin 10 → ℕ)

/-- A program run on device `c`. -/
abbrev wpc (c : Dev nD) {α : Type} (p : KProg F α) (Q : α → sProp 𝕄) : sProp 𝕄 :=
  wp frame (wpE (defs₀ (F := F)) 𝒱₀ (c : Thread nD τ) none) Set.univ p Q

/-- The staged input of device `c` holds `x`; likewise the staged output and the totals. -/
def xHas (c : Dev nD) (x : Vec F S1024x512 .bf16) : sProp 𝕄 := (xM.view.loc (c : Thread nD τ)) ↦{fullShare} x
def oHas (c : Dev nD) (f : Vec F S1024x512 .bf16) : sProp 𝕄 := (oM.view.loc (c : Thread nD τ)) ↦{fullShare} f
def tHas (c : Dev nD) (t : Vec F S1x512 .f32) : sProp 𝕄 := (tM.view.loc (c : Thread nD τ)) ↦{fullShare} t
/-- The first `b` blocks of the staged output are in place. -/
def oBlocks (c : Dev nD) (x : Vec F S1024x512 .bf16) (b : ℕ) : sProp 𝕄 :=
  iprop(∃ f : Vec F S1024x512 .bf16, ⌜∀ i : S1024x512.Idx, (i 0).val < 128 * b → f i = localOut x i⌝ ∗ oHas c f)

/-- The two ways of writing the corner of a matrix. -/
theorem hz : (![0, 0] : Fin 2 → ℕ) = fun _ => 0 := by funext a; match a with | ⟨0, _⟩ => rfl | ⟨1, _⟩ => rfl

/-- Before the first store no block needs to be in place. -/
theorem oBlocks_start (c : Dev nD) (x f : Vec F S1024x512 .bf16) : oHas c f ⊢ oBlocks c x 0 := by
  unfold oBlocks; iintro H; iexists f
  isplitr; · ipureintro; exact fun i h => absurd h (Nat.not_lt_zero _)
  iexact H
/-- After eight stores the output buffer holds the local prefix sums. -/
theorem oBlocks_end (c : Dev nD) (x : Vec F S1024x512 .bf16) : oBlocks c x 8 ⊢ oHas c (localOut x) := by
  unfold oBlocks; iintro ⟨%f, %hf, H⟩
  rw [localOut_of_blocks x f hf]; iexact H

/-- Block `b` is put in place. -/
theorem block_step (c : Dev nD) (o : ℕ) (inb : ∀ a, (![o, 0] : Fin 2 → ℕ) a + S128x512.size a ≤ S1024x512.size a)
    (hst : (oM.access (rB o inb)).Stores Finset.univ) (b : ℕ) (ho : o = 128 * b) (x : Vec F S1024x512 .bf16)
    (w : Vec F S128x512 .bf16 → FVec F S128x512 .bf16) (hw : w (blk x b) = blockOut x b)
    {α : Type} {Q : α → sProp 𝕄} {k : Vec F S128x512 .bf16 → KProg F α} :
    iprop(xHas c x ∗ oBlocks c x b)
      ⊢ iprop(((xHas c x ∗ oBlocks c x (b + 1)) -∗ wpc c (k (blk x b)) Q) -∗ wpc c (blockOp o inb hst w k) Q) := by
  unfold xHas oBlocks oHas blockOp wpc
  simp only [Prog.lift, Prog.bind_op, Prog.bind_ret]
  iintro ⟨Hx, ⟨%f, %hf, Ho⟩⟩ Hk
  iapply (wp_load 𝒱₀ (c : Thread nD τ) none Set.univ (m := xM) (Finset.subset_univ _)) $$ Hx; iintro Hx
  rw [read_block inb b ho]
  iapply (wp_load 𝒱₀ (c : Thread nD τ) none Set.univ (m := oM) (Finset.subset_univ _)) $$ Ho; iintro Ho
  iapply (wp_store 𝒱₀ (c : Thread nD τ) none Set.univ (m := oM) (r := rB o inb) (Mk := Finset.univ) (Finset.subset_univ _)) $$ Ho; iintro Ho
  rw [hw]
  iapply Hk
  isplitl [Hx]; · iexact Hx
  iexists _
  isplitr
  rotate_left
  · iexact Ho
  · ipureintro; exact write_block inb b ho x f hf

/-- The totals are computed and stored. -/
theorem totals_step (c : Dev nD) (x : Vec F S1024x512 .bf16) (t : Vec F S1x512 .f32) {α : Type} {Q : α → sProp 𝕄} {k : KProg F α} :
    iprop(xHas c x ∗ tHas c t) ⊢ iprop(((xHas c x ∗ tHas c (k0_pay1 x)) -∗ wpc c k Q) -∗ wpc c (totalsOp k) Q) := by
  unfold xHas tHas totalsOp wpc
  simp only [Prog.lift, Prog.bind_op, Prog.bind_ret]
  iintro ⟨Hx, Ht⟩ Hk
  iapply (wp_load 𝒱₀ (c : Thread nD τ) none Set.univ (m := xM) (Finset.subset_univ _)) $$ Hx; iintro Hx
  rw [show xM.view.readAt (Elt F) rX.toLoadRect x = x from Memref.readAt_unit_zero (Elt F) cc0_stg0_0 hz _ x]
  iapply (wp_load 𝒱₀ (c : Thread nD τ) none Set.univ (m := tM) (Finset.subset_univ _)) $$ Ht; iintro Ht
  iapply (wp_store 𝒱₀ (c : Thread nD τ) none Set.univ (m := tM) (r := rT) (Mk := Finset.univ) (Finset.subset_univ _)) $$ Ht; iintro Ht
  rw [show (tM.access rT).write (Elt F) t (k0_pay1 x) Finset.univ = k0_pay1 x from
    Memref.write_access_unit_zero_univ (Elt F) cc0_scratch0 hz _ t (k0_pay1 x)]
  iapply Hk
  isplitl [Hx]; · iexact Hx
  iexact Ht

/-- The staged output is rewritten. -/
theorem final_step (c : Dev nD) (f : Vec F S1024x512 .bf16) (w : Vec F S1024x512 .bf16 → FVec F S1024x512 .bf16)
    {α : Type} {Q : α → sProp 𝕄} {k : KProg F α} :
    oHas c f ⊢ iprop((oHas c (w f) -∗ wpc c k Q) -∗ wpc c (finalOp w k) Q) := by
  unfold oHas finalOp wpc
  simp only [Prog.lift, Prog.bind_op, Prog.bind_ret]
  iintro Ho Hk
  iapply (wp_load 𝒱₀ (c : Thread nD τ) none Set.univ (m := oM) (Finset.subset_univ _)) $$ Ho; iintro Ho
  rw [show oM.view.readAt (Elt F) rX.toLoadRect f = f from Memref.readAt_unit_zero (Elt F) cc0_stg1_0 hz _ f]
  iapply (wp_load 𝒱₀ (c : Thread nD τ) none Set.univ (m := oM) (Finset.subset_univ _)) $$ Ho; iintro Ho
  iapply (wp_store 𝒱₀ (c : Thread nD τ) none Set.univ (m := oM) (r := rX) (Mk := Finset.univ) (Finset.subset_univ _)) $$ Ho; iintro Ho
  rw [show (oM.access rX).write (Elt F) f (w f) Finset.univ = w f from
    Memref.write_access_unit_zero_univ (Elt F) cc0_stg1_0 hz _ f (w f)]
  iapply Hk
  iexact Ho

/-- Where landing row `s` lies. -/
theorem slot_set (s : Fin 4) : (slotM s).view.set = (srect s).set :=
  (View.set_reshape _ _).trans (View.set_slice_whole _ _)

/-- A landing row is loaded: what is read, its axis of length one dropped, is the totals of the device at the left. -/
theorem slot_step (c : Dev nD) (s : Fin 4) {α : Type} {Q : α → sProp 𝕄} {k : Vec F S1x1x512 .f32 → KProg F α} :
    landed m ρ c s ⊢ iprop((∀ a : Vec F S1x1x512 .f32, (⌜s < c → shapeCast S1x512 a shapeCasts_S1x1x512_S1x512 = tot m ρ s⌝ ∗ slotAny c s)
        -∗ wpc c (k a) Q) -∗ wpc c (slotOp s k) Q) := by
  unfold landed slotAny slotPts slotOp wpc
  simp only [Prog.lift, Prog.bind_op, Prog.bind_ret]
  iintro ⟨%f, %hf, Hs⟩ Hk
  iapply (wp_load 𝒱₀ (c : Thread nD τ) none Set.univ (m := cM) (S := (slotM s).view.set) (f := f)
    (by rw [slot_set]; intro i hi; obtain ⟨j, hj, rfl⟩ := Finset.mem_map.mp hi; exact hj)) $$ Hs
  iintro Hs
  iapply Hk
  isplitr
  · ipureintro; exact fun h => (read_slot s f).trans (hf h)
  iexists f; iexact Hs

/-- A wait for the three marks of a semaphore, which is then closed. -/
theorem wait_step (c : Dev nD) (sm : Sem sig) (kx : Fin 10) (hkx : csem kx = .reg sm) (he : (handRd (F := F) m ρ).expect (cell c (.reg sm)) 0 = 3)
    (O : CellTallies nD τ sig Unit) (hO : Above (lv (cell c (.reg sm)) ()) O) (P : sProp 𝕄)
    (hP : bigSep ((handRd (F := F) m ρ).duties (cell c (.reg sm)) 0 \ ∅) (fun d => (handRd (F := F) m ρ).payload (cell c (.reg sm)) 0 d) ⊢ P)
    {α : Type} {Q : α → sProp 𝕄} {k : KProg F α} :
    iprop(records m ρ K ∗ levAts L lv ∗ Ow c O ∗ atPos ER (cell c (.reg sm)) 0 ∅ 0 ∗ cred (tallyAt (cell c (.reg sm)) () 3))
      ⊢ iprop(((Ow c O ∗ semVal (cell c (.reg sm)) 0 ∗ P) -∗ wpc c k Q) -∗ wpc c (waitOp sm k) Q) := by
  unfold Ow waitOp wpc
  simp only [semWaitWord, Prog.bind_op, Prog.bind_ret]
  iintro ⟨#Hrec, #Hlev, ⟨%W, HO⟩, Hat, Hc⟩ Hk
  iapply (Rounds.wp_wait_rest_token 𝒱₀ ER (handRd m ρ) (c : Thread nD τ) none (κ := K (c, kx))
      (wpE_semWait_eq 𝒱₀ (c : Thread nD τ) none Set.univ) (Set.mem_univ _) () (O := O) (W := W) (R := 0) (m := 0) (T := ∅)
      (by rw [he]; decide)) $$ [Hc HO Hat]
  · isplitr; · iapply (inv_of m ρ K c kx hkx); iexact Hrec
    isplitl [Hc]; · iexact Hc
    isplitl [HO]; · iexact HO
    isplitr; · iapply (mayWait_above hO c (.reg sm) (le_refl _)); iexact Hlev
    iexact Hat
  iintro ⟨HO, Hat, -, Hpay⟩
  imod (Rounds.cell_close ER (handRd m ρ) (Set.mem_univ (K (c, kx))) (fun h => h) (R := 0 + 1) (duties_later m ρ (cell c (.reg sm)))) $$ [Hat] with Hz
  · isplitr; · iapply (inv_of m ρ K c kx hkx); iexact Hrec
    iexact Hat
  iapply Hk
  isplitl [HO]; · iexists _; iexact HO
  isplitl [Hz]; · iexact Hz
  iapply hP; iexact Hpay

/-! ## Splitting and joining -/

/-- Elements held whole, in four parts. -/
theorem leaves4 {ℓ : Loc nD τ sig} (I : Finset (Idx ℓ)) (f : Buf (Elt F) ℓ) :
    (ℓ ↦[I]{fullShare} f : sProp 𝕄) = iprop((ℓ ↦[I]{lend 0} f) ∗ (ℓ ↦[I]{lend 1} f) ∗ (ℓ ↦[I]{lend 2} f) ∗ (ℓ ↦[I]{lend 3} f)) :=
  (ShareLeaves.pointsTo_leaves I f 2 fullShare).trans (star4 (F := F) fun d => (ℓ ↦[I]{lend d} f))

/-- The totals in four parts: one kept, three lent. -/
theorem totals_split (c : Dev nD) :
    (tHas c (tot m ρ c) : sProp 𝕄) = iprop(totPts m ρ c (lend 0) ∗ totPts m ρ c (lend 1) ∗ totPts m ρ c (lend 2) ∗ totPts m ρ c (lend 3)) := by
  unfold tHas totPts
  rw [show (tM : Memref sig .tc .vmem S1x512 .f32).view.set = Finset.univ from View.set_whole _]
  exact leaves4 (ℓ := tM.view.loc (c : Thread nD τ)) Finset.univ (tot m ρ c)

/-- The rows of the landing buffer. -/
abbrev rowSet (c : Dev nD) (s : Fin 4) : Finset (Idx (cM.view.loc (c : Thread nD τ))) := (srect s).set
/-- A landing row with any contents, as a set of places of the buffer. -/
theorem slotAny_eq (c : Dev nD) (s : Fin 4) :
    (slotAny c s : sProp 𝕄) = iprop(∃ f : Buf (Elt F) (cM.view.loc (c : Thread nD τ)), cM.view.loc (c : Thread nD τ) ↦[rowSet c s]{fullShare} f) := by
  unfold slotAny slotPts; rw [slot_set]

/-- A landing row with some contents is one with any contents. -/
theorem row_any (c : Dev nD) (s : Fin 4) (f : Buf (Elt F) (cM.view.loc (c : Thread nD τ))) :
    (cM.view.loc (c : Thread nD τ) ↦[rowSet c s]{fullShare} f : sProp 𝕄) ⊢ slotAny c s := by
  rw [slotAny_eq]; iintro H; iexists f; iexact H

/-- The landing rows do not meet, and cover their buffer. -/
theorem row_disjoint (c : Dev nD) (s s' : Fin 4) (h : s ≠ s') : Disjoint (rowSet c s) (rowSet c s') :=
  Rect.unit_disjoint 0 (by
    have : s.val ≠ s'.val := fun e => h (Fin.ext e)
    show s.val + 1 ≤ s'.val ∨ s'.val + 1 ≤ s.val
    omega)
/-- The landing rows cover their buffer. -/
theorem row_cover (c : Dev nD) : Finset.univ.biUnion (rowSet c) = Finset.univ :=
  Finset.eq_univ_iff_forall.mpr fun (i : S4x1x512.Idx) => Finset.mem_biUnion.mpr ⟨i 0, Finset.mem_univ _, Rect.mem_set_unit.mpr fun a => by
    match a with
    | ⟨0, _⟩ => exact ⟨le_refl _, Nat.lt_succ_self _⟩
    | ⟨1, _⟩ => exact ⟨Nat.zero_le _, by show (i 1).val < 0 + 1; rw [Nat.zero_add]; exact (i 1).isLt⟩
    | ⟨2, _⟩ => exact ⟨Nat.zero_le _, by show (i 2).val < 0 + 512; rw [Nat.zero_add]; exact (i 2).isLt⟩⟩

/-- The landing buffer, and its four rows. -/
theorem slots_split (c : Dev nD) (f : Buf (Elt F) (cM.view.loc (c : Thread nD τ))) :
    (cM.view.loc (c : Thread nD τ) ↦{fullShare} f : sProp 𝕄) ⊢ iprop(slotAny c 0 ∗ slotAny c 1 ∗ slotAny c 2 ∗ slotAny c 3) := by
  rw [← star4 (F := F) (slotAny c), Ring.pointsTo_blocks (rowSet c) (row_disjoint c) (row_cover c) f]
  exact bigSep_mono fun s _ => row_any c s f
/-- The four landing rows make up the buffer again. -/
theorem slots_join (c : Dev nD) (f : Buf (Elt F) (cM.view.loc (c : Thread nD τ))) :
    iprop(slotAny c 0 ∗ slotAny c 1 ∗ slotAny c 2 ∗ slotAny c 3) ⊢ (iprop(∃ g, cM.view.loc (c : Thread nD τ) ↦{fullShare} g) : sProp 𝕄) := by
  rw [← star4 (F := F) (slotAny c), bigSep_congr fun s _ => slotAny_eq (F := F) c s]
  exact Ring.pointsTo_blocks_join_exists (rowSet c) (row_disjoint c) (row_cover c) f

end Cert.KernelIdealProof

end
-- ==== Proof.KernelIdeal.Run.lean ====
/-
# The kernel run on one device

Each part of the kernel is run once for every device: what it takes, and what it leaves.
-/
module

public import proofs.«01_k».proof.Proof.KernelIdeal.Memory

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × Fin 10 → ℕ)

/-! ## The guards -/

/-- The guard of the entry mark for device 0. -/
theorem cond1_iff (c : Dev nD) : k0_cond1 c = 1#1 ↔ c ≠ (0 : Fin 4) := by revert c; decide
/-- The guard of the entry mark for device 1. -/
theorem cond2_iff (c : Dev nD) : k0_cond2 c = 1#1 ↔ c ≠ (1 : Fin 4) := by revert c; decide
/-- The guard of the entry mark for device 2. -/
theorem cond3_iff (c : Dev nD) : k0_cond3 c = 1#1 ↔ c ≠ (2 : Fin 4) := by revert c; decide
/-- The guard of the entry mark for device 3. -/
theorem cond4_iff (c : Dev nD) : k0_cond4 c = 1#1 ↔ c ≠ (3 : Fin 4) := by revert c; decide
/-- The guard of the transfer from device 0 to device 1. -/
theorem cond5_iff (c : Dev nD) : k0_cond5 c = 1#1 ↔ c = (0 : Fin 4) := by revert c; decide
/-- The guard of the transfer from device 0 to device 2. -/
theorem cond6_iff (c : Dev nD) : k0_cond6 c = 1#1 ↔ c = (0 : Fin 4) := by revert c; decide
/-- The guard of the transfer from device 0 to device 3. -/
theorem cond7_iff (c : Dev nD) : k0_cond7 c = 1#1 ↔ c = (0 : Fin 4) := by revert c; decide
/-- The guard of the transfer from device 1 to device 2. -/
theorem cond8_iff (c : Dev nD) : k0_cond8 c = 1#1 ↔ c = (1 : Fin 4) := by revert c; decide
/-- The guard of the transfer from device 1 to device 3. -/
theorem cond9_iff (c : Dev nD) : k0_cond9 c = 1#1 ↔ c = (1 : Fin 4) := by revert c; decide
/-- The guard of the transfer from device 2 to device 3. -/
theorem cond10_iff (c : Dev nD) : k0_cond10 c = 1#1 ↔ c = (2 : Fin 4) := by revert c; decide
/-- The guard of the exit mark for device 0. -/
theorem cond17_iff (c : Dev nD) : k0_cond17 c = 1#1 ↔ c ≠ (0 : Fin 4) := by revert c; decide
/-- The guard of the exit mark for device 1. -/
theorem cond18_iff (c : Dev nD) : k0_cond18 c = 1#1 ↔ c ≠ (1 : Fin 4) := by revert c; decide
/-- The guard of the exit mark for device 2. -/
theorem cond19_iff (c : Dev nD) : k0_cond19 c = 1#1 ↔ c ≠ (2 : Fin 4) := by revert c; decide
/-- The guard of the exit mark for device 3. -/
theorem cond20_iff (c : Dev nD) : k0_cond20 c = 1#1 ↔ c ≠ (3 : Fin 4) := by revert c; decide
/-- The guard of the wait for a landing. -/
theorem isGt_iff (c : Dev nD) (s : Fin 4) : isGt (vpos c) (BitVec.ofNat 32 s.val) = 1#1 ↔ s < c := by revert c s; decide
/-- The guard of the wait for a send. -/
theorem isLt_iff (c : Dev nD) (d : Fin 4) : isLt (vpos c) (BitVec.ofNat 32 d.val) = 1#1 ↔ c < d := by revert c d; decide

/-- A program at its end. -/
theorem wpc_ret (c : Dev nD) {α : Type} (a : α) {Q : α → sProp 𝕄} : Q a ⊢ wpc c (.ret a : KProg F α) Q := by
  unfold wpc; rw [wp_ret]; iintro H; imodintro; iexact H

/-! ## The entry, the totals, the first two transfers -/

/-- The rights of device `c` to complete its transfer to device `d` at both ends. -/
def sendTok (c : Dev nD) (d : Fin 4) : sProp 𝕄 := iprop(dutyTok ER (sendCell c d) 0 0 ∗ dutyTok ER (recvCell d c) 0 0)
/-- Before a transfer starts: its share of the totals, the row lent by its target, and the rights to complete it. -/
theorem sendSt_intro (c : Dev nD) (d : Fin 4) : iprop(totPts m ρ c (lend d) ∗ barPay c d ∗ sendTok c d) ⊢ sendSt m ρ c d 0 := by
  unfold sendSt sendRes sendTok; rw [if_neg (Nat.not_lt_zero _)]

def pre1 (c : Dev nD) : sProp 𝕄 :=
  iprop(Ow c (owe0 c) ∗ (dutyTok ER (barCell 0) 0 c ∗ dutyTok ER (barCell 1) 0 c ∗ dutyTok ER (barCell 2) 0 c ∗ dutyTok ER (barCell 3) 0 c)
    ∗ (slotAny c 0 ∗ slotAny c 1 ∗ slotAny c 2 ∗ slotAny c 3) ∗ atPos ER (barCell c) 0 ∅ 0 ∗ cred (tallyAt (barCell c) () 3)
    ∗ (sendTok c 1 ∗ sendTok c 2 ∗ sendTok c 3) ∗ xHas c (xstg m ρ c) ∗ ∃ t, tHas c t)
def post1 (c : Dev nD) : sProp 𝕄 :=
  iprop(Ow c (owe6 c) ∗ (kept c 0 ∗ kept c 1 ∗ kept c 2 ∗ kept c 3) ∗ semVal (barCell c) 0 ∗ totPts m ρ c (lend 0)
    ∗ (sendSt m ρ c 1 1 ∗ sendSt m ρ c 2 1 ∗ sendSt m ρ c 3 0) ∗ xHas c (xstg m ρ c))

/-- The first stretch: the entry marks and their wait, the column totals, and the first two transfers. -/
theorem run1 (c : Dev nD) {Q : (Σ' (d0 : Dev nD), BitVec 32) → sProp 𝕄} :
    iprop(records m ρ K ∗ levAts L lv ∗ pre1 m ρ c) ⊢ iprop((post1 m ρ c -∗ Q ⟨c, vpos c⟩) -∗ wpc c chain1 Q) := by
  unfold pre1 post1 wpc chain1
  simp only [Prog.lift, Prog.bind_op, Prog.bind_ret, Prog.pure_eq_ret, wp_deviceId]
  iintro ⟨#Hrec, #Hlev, HO, ⟨Ht0, Ht1, Ht2, Ht3⟩, ⟨Hs0, Hs1, Hs2, Hs3⟩, Hat, Hc, ⟨Hd1, Hd2, Hd3⟩, Hx, ⟨%t, Ht⟩⟩ Hk
  iapply (entry_step m ρ K c 0 _ _ (cond1_iff c) (fun _ => Fin.ext k0_dev1_eq) (owe1 c)) $$ [HO Ht0 Hs0]
  · isplitr; · iexact Hrec
    isplitl [HO]; · iexact HO
    isplitl [Ht0] <;> iassumption
  iintro ⟨HO, Hs0⟩
  iapply (entry_step m ρ K c 1 _ _ (cond2_iff c) (fun _ => Fin.ext k0_dev2_eq) (owe2 c)) $$ [HO Ht1 Hs1]
  · isplitr; · iexact Hrec
    isplitl [HO]; · iexact HO
    isplitl [Ht1] <;> iassumption
  iintro ⟨HO, Hs1⟩
  iapply (entry_step m ρ K c 2 _ _ (cond3_iff c) (fun _ => Fin.ext k0_dev3_eq) (owe3 c)) $$ [HO Ht2 Hs2]
  · isplitr; · iexact Hrec
    isplitl [HO]; · iexact HO
    isplitl [Ht2] <;> iassumption
  iintro ⟨HO, Hs2⟩
  iapply (entry_step m ρ K c 3 _ _ (cond4_iff c) (fun _ => Fin.ext k0_dev4_eq) (owe4 c)) $$ [HO Ht3 Hs3]
  · isplitr; · iexact Hrec
    isplitl [HO]; · iexact HO
    isplitl [Ht3] <;> iassumption
  iintro ⟨HO, Hs3⟩
  iapply (wait_step m ρ K c barS 0 csem_bar (expect_bar m ρ c) (owe4 c) (by rw [lv_bar]; exact above_owe4 c) _ (rest_bar m ρ c)) $$ [HO Hat Hc]
  · isplitr; · iexact Hrec
    isplitr; · iexact Hlev
    isplitl [HO]; · iexact HO
    isplitl [Hat] <;> iassumption
  iintro ⟨HO, Hz, ⟨-, Hp1, Hp2, Hp3⟩⟩
  iapply (totals_step c (xstg m ρ c) t) $$ [Hx Ht]
  · isplitl [Hx] <;> iassumption
  iintro ⟨Hx, Ht⟩
  rw [show k0_pay1 (xstg m ρ c) = tot m ρ c from rfl]
  ihave Ht := (Entails.of_eq (totals_split m ρ c)) $$ Ht
  icases Ht with ⟨Hl0, Hl1, Hl2, Hl3⟩
  ihave Hd1 := (sendSt_intro m ρ c 1) $$ [Hl1 Hp1 Hd1]
  · isplitl [Hl1]; · iexact Hl1
    isplitl [Hp1] <;> iassumption
  ihave Hd2 := (sendSt_intro m ρ c 2) $$ [Hl2 Hp2 Hd2]
  · isplitl [Hl2]; · iexact Hl2
    isplitl [Hp2] <;> iassumption
  ihave Hd3 := (sendSt_intro m ρ c 3) $$ [Hl3 Hp3 Hd3]
  · isplitl [Hl3]; · iexact Hl3
    isplitl [Hp3] <;> iassumption
  iapply (send_step m ρ K c 0 1 (by decide) _ _ (cond5_iff c) (fun _ => Fin.ext k0_dev5_eq) (owe5 c)) $$ [HO Hd1]
  · isplitr; · iexact Hrec
    isplitl [HO]; · iexact HO
    iexact Hd1
  iintro ⟨HO, Hd1⟩
  iapply (send_step m ρ K c 0 2 (by decide) _ _ (cond6_iff c) (fun _ => Fin.ext k0_dev6_eq) (owe6 c)) $$ [HO Hd2]
  · isplitr; · iexact Hrec
    isplitl [HO]; · iexact HO
    iexact Hd2
  iintro ⟨HO, Hd2⟩
  iapply (wpc_ret c _)
  iapply Hk
  isplitl [HO]; · iexact HO
  isplitl [Hs0 Hs1 Hs2 Hs3]
  · isplitl [Hs0]; · iexact Hs0
    isplitl [Hs1]; · iexact Hs1
    isplitl [Hs2] <;> iassumption
  isplitl [Hz]; · iexact Hz
  isplitl [Hl0]; · iexact Hl0
  isplitl [Hd1 Hd2 Hd3]
  · isplitl [Hd1]; · iexact Hd1
    isplitl [Hd2]; · iexact Hd2
    iexact Hd3
  iexact Hx

/-! ## The other transfers, and two blocks -/

def pre2 (c : Dev nD) : sProp 𝕄 :=
  iprop(Ow c (owe6 c) ∗ (sendSt m ρ c 1 1 ∗ sendSt m ρ c 2 1 ∗ sendSt m ρ c 3 0) ∗ xHas c (xstg m ρ c) ∗ oBlocks c (xstg m ρ c) 0)
def post2 (c : Dev nD) : sProp 𝕄 :=
  iprop(Ow c (owe10 c) ∗ (sendSt m ρ c 1 1 ∗ sendSt m ρ c 2 2 ∗ sendSt m ρ c 3 3) ∗ xHas c (xstg m ρ c) ∗ oBlocks c (xstg m ρ c) 2)

/-- The second stretch: the remaining transfers and the first two blocks. -/
theorem run2 (c : Dev nD) {Q : (Σ' (v47 : FVec F S128x128 .bf16) (v57 : FVec F S1x512 .f32), FVec F S128x512 .f32) → sProp 𝕄} :
    iprop(records m ρ K ∗ pre2 m ρ c)
      ⊢ iprop((post2 m ρ c -∗ Q ⟨k0_pay2, carry (xstg m ρ c) 1, k0_pay7 (blk (xstg m ρ c) 1)⟩) -∗ wpc c (chain2 c) Q) := by
  unfold pre2 post2 wpc chain2
  simp only [Prog.pure_eq_ret]
  iintro ⟨#Hrec, HO, ⟨Hd1, Hd2, Hd3⟩, Hx, Ho⟩ Hk
  iapply (send_step m ρ K c 0 3 (by decide) _ _ (cond7_iff c) (fun _ => Fin.ext k0_dev7_eq) (owe7 c)) $$ [HO Hd3]
  · isplitr; · iexact Hrec
    isplitl [HO]; · iexact HO
    iexact Hd3
  iintro ⟨HO, Hd3⟩
  iapply (send_step m ρ K c 1 2 (by decide) _ _ (cond8_iff c) (fun _ => Fin.ext k0_dev8_eq) (owe8 c)) $$ [HO Hd2]
  · isplitr; · iexact Hrec
    isplitl [HO]; · iexact HO
    iexact Hd2
  iintro ⟨HO, Hd2⟩
  iapply (send_step m ρ K c 1 3 (by decide) _ _ (cond9_iff c) (fun _ => Fin.ext k0_dev9_eq) (owe9 c)) $$ [HO Hd3]
  · isplitr; · iexact Hrec
    isplitl [HO]; · iexact HO
    iexact Hd3
  iintro ⟨HO, Hd3⟩
  iapply (send_step m ρ K c 2 3 (by decide) _ _ (cond10_iff c) (fun _ => Fin.ext k0_dev10_eq) (owe10 c)) $$ [HO Hd3]
  · isplitr; · iexact Hrec
    isplitl [HO]; · iexact HO
    iexact Hd3
  iintro ⟨HO, Hd3⟩
  iapply (block_step c 0 _ _ 0 rfl (xstg m ρ c) _ (pay_block0 (xstg m ρ c))) $$ [Hx Ho]
  · isplitl [Hx] <;> iassumption
  iintro ⟨Hx, Ho⟩
  iapply (block_step c 128 _ _ 1 rfl (xstg m ρ c) _ (pay_block1 (xstg m ρ c))) $$ [Hx Ho]
  · isplitl [Hx] <;> iassumption
  iintro ⟨Hx, Ho⟩
  rw [pay_carry1]
  iapply (wpc_ret c _)
  iapply Hk
  isplitl [HO]; · iexact HO
  isplitl [Hd1 Hd2 Hd3]
  · isplitl [Hd1]; · iexact Hd1
    isplitl [Hd2]; · iexact Hd2
    iexact Hd3
  isplitl [Hx]; · iexact Hx
  iexact Ho

/-! ## Four blocks -/

/-- The third stretch: four blocks. -/
theorem run3 (c : Dev nD) (x : Vec F S1024x512 .bf16) {Q : (Σ' (v93 : FVec F S1x512 .f32), FVec F S128x512 .f32) → sProp 𝕄} :
    iprop(xHas c x ∗ oBlocks c x 2)
      ⊢ iprop(((xHas c x ∗ oBlocks c x 6) -∗ Q ⟨carry x 5, k0_pay7 (blk x 5)⟩) -∗ wpc c (chain3 k0_pay2 (carry x 1) (k0_pay7 (blk x 1))) Q) := by
  unfold wpc chain3
  simp only [Prog.pure_eq_ret]
  iintro ⟨Hx, Ho⟩ Hk
  iapply (block_step c 256 _ _ 2 rfl x _ (pay_block2 x)) $$ [Hx Ho]
  · isplitl [Hx] <;> iassumption
  iintro ⟨Hx, Ho⟩
  iapply (block_step c 384 _ _ 3 rfl x _ (pay_block3 x)) $$ [Hx Ho]
  · isplitl [Hx] <;> iassumption
  iintro ⟨Hx, Ho⟩
  iapply (block_step c 512 _ _ 4 rfl x _ (pay_block4 x)) $$ [Hx Ho]
  · isplitl [Hx] <;> iassumption
  iintro ⟨Hx, Ho⟩
  iapply (block_step c 640 _ _ 5 rfl x _ (pay_block5 x)) $$ [Hx Ho]
  · isplitl [Hx] <;> iassumption
  iintro ⟨Hx, Ho⟩
  rw [pay_carry5, pay_loc5]
  iapply (wpc_ret c _)
  iapply Hk
  isplitl [Hx]; · iexact Hx
  iexact Ho

/-! ## The last blocks, the receipts, the first landing row -/

def pre4 (c : Dev nD) : sProp 𝕄 :=
  iprop(Ow c (owe10 c) ∗ (atPos ER (recvCell c 0) 0 ∅ 0 ∗ atPos ER (recvCell c 1) 0 ∅ 0 ∗ atPos ER (recvCell c 2) 0 ∅ 0)
    ∗ (recvCred c 0 ∗ recvCred c 1 ∗ recvCred c 2) ∗ (kept c 0 ∗ kept c 1 ∗ kept c 2) ∗ xHas c (xstg m ρ c) ∗ oBlocks c (xstg m ρ c) 6)
def post4 (c : Dev nD) : sProp 𝕄 :=
  iprop(Ow c (owe10 c) ∗ (semVal (recvCell c 0) 0 ∗ semVal (recvCell c 1) 0 ∗ semVal (recvCell c 2) 0)
    ∗ (slotAny c 0 ∗ landed m ρ c 1 ∗ landed m ρ c 2) ∗ xHas c (xstg m ρ c) ∗ oHas c (localOut (xstg m ρ c)))

/-- The fourth stretch: the last two blocks, the waits for the landings, and the load of the first row. -/
theorem run4 (c : Dev nD) {Q : (Σ' (v128 : FVec F S1x512 .f32) (v133 : FVec F S1x512 .f32), BitVec 32) → sProp 𝕄} :
    iprop(records m ρ K ∗ levAts L lv ∗ pre4 m ρ c)
      ⊢ iprop((∀ a : Vec F S1x1x512 .f32, (⌜(0 : Fin 4) < c → shapeCast S1x512 a shapeCasts_S1x1x512_S1x512 = tot m ρ 0⌝ ∗ post4 m ρ c)
          -∗ Q ⟨k0_pay25, k0_pay26 (vpos c) a, 1#32⟩)
        -∗ wpc c (chain4 (vpos c) k0_pay2 (carry (xstg m ρ c) 5) (k0_pay7 (blk (xstg m ρ c) 5))) Q) := by
  unfold pre4 post4 wpc chain4
  simp only [Prog.pure_eq_ret]
  iintro ⟨#Hrec, #Hlev, HO, ⟨Ha0, Ha1, Ha2⟩, ⟨Hc0, Hc1, Hc2⟩, ⟨Hs0, Hs1, Hs2⟩, Hx, Ho⟩ Hk
  iapply (block_step c 768 _ _ 6 rfl (xstg m ρ c) _ (pay_block6 (xstg m ρ c))) $$ [Hx Ho]
  · isplitl [Hx] <;> iassumption
  iintro ⟨Hx, Ho⟩
  iapply (block_step c 896 _ _ 7 rfl (xstg m ρ c) _ (pay_block7 (xstg m ρ c))) $$ [Hx Ho]
  · isplitl [Hx] <;> iassumption
  iintro ⟨Hx, Ho⟩
  ihave Ho := (oBlocks_end c (xstg m ρ c)) $$ Ho
  iapply (recv_step m ρ K c 0 _ (isGt_iff c 0) (owe10 c) (above_owe10 c)) $$ [HO Ha0 Hc0 Hs0]
  · isplitr; · iexact Hrec
    isplitr; · iexact Hlev
    isplitl [HO]; · iexact HO
    isplitl [Ha0]; · iexact Ha0
    isplitl [Hc0] <;> iassumption
  iintro ⟨HO, Hz0, Hs0⟩
  iapply (recv_step m ρ K c 1 _ (isGt_iff c 1) (owe10 c) (above_owe10 c)) $$ [HO Ha1 Hc1 Hs1]
  · isplitr; · iexact Hrec
    isplitr; · iexact Hlev
    isplitl [HO]; · iexact HO
    isplitl [Ha1]; · iexact Ha1
    isplitl [Hc1] <;> iassumption
  iintro ⟨HO, Hz1, Hs1⟩
  iapply (recv_step m ρ K c 2 _ (isGt_iff c 2) (owe10 c) (above_owe10 c)) $$ [HO Ha2 Hc2 Hs2]
  · isplitr; · iexact Hrec
    isplitr; · iexact Hlev
    isplitl [HO]; · iexact HO
    isplitl [Ha2]; · iexact Ha2
    isplitl [Hc2] <;> iassumption
  iintro ⟨HO, Hz2, Hs2⟩
  iapply (slot_step m ρ c 0) $$ Hs0
  iintro %a ⟨%ha, Hs0⟩
  iapply (wpc_ret c _)
  iapply Hk
  isplitr; · ipureintro; exact ha
  isplitl [HO]; · iexact HO
  isplitl [Hz0 Hz1 Hz2]
  · isplitl [Hz0]; · iexact Hz0
    isplitl [Hz1] <;> iassumption
  isplitl [Hs0 Hs1 Hs2]
  · isplitl [Hs0]; · iexact Hs0
    isplitl [Hs1] <;> iassumption
  isplitl [Hx]; · iexact Hx
  iexact Ho

/-! ## The other landing rows, the last store, the ends of the transfers, two exit marks -/

def pre5 (c : Dev nD) : sProp 𝕄 :=
  iprop(Ow c (owe10 c) ∗ (landed m ρ c 1 ∗ landed m ρ c 2) ∗ oHas c (localOut (xstg m ρ c))
    ∗ (atPos ER (sendCell c 1) 0 ∅ 0 ∗ atPos ER (sendCell c 2) 0 ∅ 0 ∗ atPos ER (sendCell c 3) 0 ∅ 0)
    ∗ (sendSt m ρ c 1 1 ∗ sendSt m ρ c 2 2 ∗ sendSt m ρ c 3 3) ∗ (dutyTok ER (endCell 0) 0 c ∗ dutyTok ER (endCell 1) 0 c))
def post5 (c : Dev nD) : sProp 𝕄 :=
  iprop(Ow c (owe12 c) ∗ (slotAny c 1 ∗ slotAny c 2) ∗ oHas c (outAt m ρ c)
    ∗ (semVal (sendCell c 1) 0 ∗ semVal (sendCell c 2) 0 ∗ semVal (sendCell c 3) 0)
    ∗ (totPts m ρ c (lend 1) ∗ totPts m ρ c (lend 2) ∗ totPts m ρ c (lend 3)))

/-- The fifth stretch: the loads of the other rows, the final sum, the waits for the sends, and the first two exit marks. -/
theorem run5 (c : Dev nD) (a : Vec F S1x1x512 .f32) (ha : (0 : Fin 4) < c → shapeCast S1x512 a shapeCasts_S1x1x512_S1x512 = tot m ρ 0)
    {Q : BitVec 32 → sProp 𝕄} :
    iprop(records m ρ K ∗ levAts L lv ∗ pre5 m ρ c)
      ⊢ iprop((post5 m ρ c -∗ Q 2#32) -∗ wpc c (chain5 c (vpos c) k0_pay25 (k0_pay26 (vpos c) a) 1#32) Q) := by
  unfold pre5 post5 wpc chain5
  simp only [Prog.pure_eq_ret]
  iintro ⟨#Hrec, #Hlev, HO, ⟨Hs1, Hs2⟩, Ho, ⟨Ha1, Ha2, Ha3⟩, ⟨Hd1, Hd2, Hd3⟩, ⟨He0, He1⟩⟩ Hk
  iapply (slot_step m ρ c 1) $$ Hs1
  iintro %b ⟨%hb, Hs1⟩
  iapply (slot_step m ρ c 2) $$ Hs2
  iintro %d ⟨%hd, Hs2⟩
  iapply (final_step c (localOut (xstg m ρ c))) $$ Ho
  iintro Ho
  rw [pay_out, offs_left m ρ c _ _ _ ha hb hd]
  iapply (drain_step m ρ K c 1 _ (isLt_iff c 1) (owe10 c) (above_owe10 c)) $$ [HO Ha1 Hd1]
  · isplitr; · iexact Hrec
    isplitr; · iexact Hlev
    isplitl [HO]; · iexact HO
    isplitl [Ha1]; · iexact Ha1
    iexact Hd1
  iintro ⟨HO, Hz1, Hd1⟩
  iapply (drain_step m ρ K c 2 _ (isLt_iff c 2) (owe10 c) (above_owe10 c)) $$ [HO Ha2 Hd2]
  · isplitr; · iexact Hrec
    isplitr; · iexact Hlev
    isplitl [HO]; · iexact HO
    isplitl [Ha2]; · iexact Ha2
    iexact Hd2
  iintro ⟨HO, Hz2, Hd2⟩
  iapply (drain_step m ρ K c 3 _ (isLt_iff c 3) (owe10 c) (above_owe10 c)) $$ [HO Ha3 Hd3]
  · isplitr; · iexact Hrec
    isplitr; · iexact Hlev
    isplitl [HO]; · iexact HO
    isplitl [Ha3]; · iexact Ha3
    iexact Hd3
  iintro ⟨HO, Hz3, Hd3⟩
  iapply (exit_step m ρ K c 0 _ _ (cond17_iff c) (fun _ => Fin.ext k0_dev11_eq) (owe11 c)) $$ [HO He0]
  · isplitr; · iexact Hrec
    isplitl [HO]; · iexact HO
    isplitl [He0]; · iexact He0
    iempintro
  iintro ⟨HO, -⟩
  iapply (exit_step m ρ K c 1 _ _ (cond18_iff c) (fun _ => Fin.ext k0_dev12_eq) (owe12 c)) $$ [HO He1]
  · isplitr; · iexact Hrec
    isplitl [HO]; · iexact HO
    isplitl [He1]; · iexact He1
    iempintro
  iintro ⟨HO, -⟩
  iapply (wpc_ret c _)
  iapply Hk
  isplitl [HO]; · iexact HO
  isplitl [Hs1 Hs2]; · isplitl [Hs1] <;> iassumption
  isplitl [Ho]; · iexact Ho
  isplitl [Hz1 Hz2 Hz3]
  · isplitl [Hz1]; · iexact Hz1
    isplitl [Hz2] <;> iassumption
  isplitl [Hd1]; · iexact Hd1
  isplitl [Hd2] <;> iassumption

/-! ## The last exit marks and the exit -/

/-- What the wait for the exit collects: nothing. -/
theorem rest_end (c : Dev nD) :
    bigSep ((handRd (F := F) m ρ).duties (endCell c) 0 \ ∅) (fun d => (handRd (F := F) m ρ).payload (endCell c) 0 d) ⊢ (iprop(emp) : sProp 𝕄) := by
  iintro -; iempintro

/-- The last stretch: the other two exit marks and the wait for the exit. -/
theorem run6 (c : Dev nD) {Q : PUnit → sProp 𝕄} :
    iprop(records m ρ K ∗ levAts L lv ∗ Ow c (owe12 c) ∗ (dutyTok ER (endCell 2) 0 c ∗ dutyTok ER (endCell 3) 0 c)
        ∗ atPos ER (endCell c) 0 ∅ 0 ∗ cred (tallyAt (endCell c) () 3))
      ⊢ iprop(((Ow c 0 ∗ semVal (endCell c) 0) -∗ Q ⟨⟩) -∗ wpc c (chain6 c) Q) := by
  unfold wpc chain6
  simp only [Prog.pure_eq_ret]
  iintro ⟨#Hrec, #Hlev, HO, ⟨He2, He3⟩, Hat, Hc⟩ Hk
  iapply (exit_step m ρ K c 2 _ _ (cond19_iff c) (fun _ => Fin.ext k0_dev13_eq) (owe13 c)) $$ [HO He2]
  · isplitr; · iexact Hrec
    isplitl [HO]; · iexact HO
    isplitl [He2]; · iexact He2
    iempintro
  iintro ⟨HO, -⟩
  iapply (exit_step m ρ K c 3 _ _ (cond20_iff c) (fun _ => Fin.ext k0_dev14_eq) (owe14 c)) $$ [HO He3]
  · isplitr; · iexact Hrec
    isplitl [HO]; · iexact HO
    isplitl [He3]; · iexact He3
    iempintro
  iintro ⟨HO, -⟩
  iapply (wait_step m ρ K c endS 1 csem_end (expect_end m ρ c) (owe14 c) (above_zero _) _ (rest_end m ρ c)) $$ [HO Hat Hc]
  · isplitr; · iexact Hrec
    isplitr; · iexact Hlev
    isplitl [HO]; · iexact HO
    isplitl [Hat] <;> iassumption
  iintro ⟨HO, Hz, -⟩
  iapply (wpc_ret c _)
  iapply Hk
  isplitl [HO]; · iexact HO
  iexact Hz

/-! ## The whole -/

def preAll (c : Dev nD) : sProp 𝕄 :=
  iprop(pre1 m ρ c ∗ (∃ f, oHas c f)
    ∗ (atPos ER (recvCell c 0) 0 ∅ 0 ∗ atPos ER (recvCell c 1) 0 ∅ 0 ∗ atPos ER (recvCell c 2) 0 ∅ 0 ∗ atPos ER (recvCell c 3) 0 ∅ 0)
    ∗ (recvCred c 0 ∗ recvCred c 1 ∗ recvCred c 2)
    ∗ (atPos ER (sendCell c 0) 0 ∅ 0 ∗ atPos ER (sendCell c 1) 0 ∅ 0 ∗ atPos ER (sendCell c 2) 0 ∅ 0 ∗ atPos ER (sendCell c 3) 0 ∅ 0)
    ∗ (dutyTok ER (endCell 0) 0 c ∗ dutyTok ER (endCell 1) 0 c ∗ dutyTok ER (endCell 2) 0 c ∗ dutyTok ER (endCell 3) 0 c)
    ∗ atPos ER (endCell c) 0 ∅ 0 ∗ cred (tallyAt (endCell c) () 3))
def postAll (c : Dev nD) : sProp 𝕄 :=
  iprop(Ow c 0 ∗ xHas c (xstg m ρ c) ∗ oHas c (outAt m ρ c) ∗ tHas c (tot m ρ c) ∗ (slotAny c 0 ∗ slotAny c 1 ∗ slotAny c 2 ∗ slotAny c 3)
    ∗ semVal (barCell c) 0 ∗ semVal (endCell c) 0
    ∗ (semVal (sendCell c 0) 0 ∗ semVal (sendCell c 1) 0 ∗ semVal (sendCell c 2) 0 ∗ semVal (sendCell c 3) 0)
    ∗ (semVal (recvCell c 0) 0 ∗ semVal (recvCell c 1) 0 ∗ semVal (recvCell c 2) 0 ∗ semVal (recvCell c 3) 0))

/-- No device is at the right of the last one, and none sends to the first. -/
theorem no_recv3 (c : Dev nD) : ¬ (3 : Fin 4) < c := by revert c; decide
/-- Nobody sends to device 0. -/
theorem no_send0 (c : Dev nD) : ¬ c < (0 : Fin 4) := by revert c; decide

/-- No transfer lands in row 3, so it stays with its device. -/
theorem kept_last (c : Dev nD) : (kept c 3 : sProp 𝕄) ⊢ slotAny c 3 := Entails.of_eq (if_neg (no_recv3 c))

/-- The kernel on device `c`. -/
theorem run_all (c : Dev nD) {Q : PUnit → sProp 𝕄} :
    iprop(records m ρ K ∗ levAts L lv ∗ preAll m ρ c) ⊢ iprop((postAll m ρ c -∗ Q ⟨⟩) -∗ wpc c chain Q) := by
  unfold preAll postAll wpc chain
  simp only [wp_bind]
  iintro ⟨#Hrec, #Hlev, H1, ⟨%f, Ho⟩, ⟨Hr0, Hr1, Hr2, Hr3⟩, Hrc, ⟨Hs0, Hs1, Hs2, Hs3⟩, ⟨He0, He1, He2, He3⟩, Hat, Hc⟩ Hk
  -- the two semaphores nobody uses are closed at once
  imod (Rounds.cell_close ER (handRd m ρ) (Set.mem_univ (K (c, recvK 3))) (fun h => h) (R := 0) (duties_none m ρ c _ (payers_recv (no_recv3 c)))) $$ [Hr3] with Hr3
  · isplitr; · iapply (inv_of m ρ K c (recvK 3) (csem_recv 3)); iexact Hrec
    iexact Hr3
  imod (Rounds.cell_close ER (handRd m ρ) (Set.mem_univ (K (c, sendK 0))) (fun h => h) (R := 0) (duties_none m ρ c _ (payers_send (no_send0 c)))) $$ [Hs0] with Hs0
  · isplitr; · iapply (inv_of m ρ K c (sendK 0) (csem_send 0)); iexact Hrec
    iexact Hs0
  iapply (run1 m ρ K c) $$ [H1]
  · isplitr; · iexact Hrec
    isplitr; · iexact Hlev
    iexact H1
  unfold post1
  iintro ⟨HO, ⟨Hk0, Hk1, Hk2, Hk3⟩, Hzb, Hl0, Hd, Hx⟩
  ihave Ho := (oBlocks_start c (xstg m ρ c) f) $$ Ho
  iapply (run2 m ρ K c) $$ [HO Hd Hx Ho]
  · isplitr; · iexact Hrec
    unfold pre2
    isplitl [HO]; · iexact HO
    isplitl [Hd]; · iexact Hd
    isplitl [Hx] <;> iassumption
  unfold post2
  iintro ⟨HO, Hd, Hx, Ho⟩
  iapply (run3 c (xstg m ρ c)) $$ [Hx Ho]
  · isplitl [Hx] <;> iassumption
  iintro ⟨Hx, Ho⟩
  iapply (run4 m ρ K c) $$ [HO Hr0 Hr1 Hr2 Hrc Hk0 Hk1 Hk2 Hx Ho]
  · isplitr; · iexact Hrec
    isplitr; · iexact Hlev
    unfold pre4
    isplitl [HO]; · iexact HO
    isplitl [Hr0 Hr1 Hr2]
    · isplitl [Hr0]; · iexact Hr0
      isplitl [Hr1] <;> iassumption
    isplitl [Hrc]; · iexact Hrc
    isplitl [Hk0 Hk1 Hk2]
    · isplitl [Hk0]; · iexact Hk0
      isplitl [Hk1] <;> iassumption
    isplitl [Hx] <;> iassumption
  unfold post4
  iintro %a ⟨%ha, HO, ⟨Hr0, Hr1, Hr2⟩, ⟨Hk0, Hk1, Hk2⟩, Hx, Ho⟩
  iapply (run5 m ρ K c a ha) $$ [HO Hk1 Hk2 Ho Hs1 Hs2 Hs3 Hd He0 He1]
  · isplitr; · iexact Hrec
    isplitr; · iexact Hlev
    unfold pre5
    isplitl [HO]; · iexact HO
    isplitl [Hk1 Hk2]; · isplitl [Hk1] <;> iassumption
    isplitl [Ho]; · iexact Ho
    isplitl [Hs1 Hs2 Hs3]
    · isplitl [Hs1]; · iexact Hs1
      isplitl [Hs2] <;> iassumption
    isplitl [Hd]; · iexact Hd
    isplitl [He0] <;> iassumption
  unfold post5
  iintro ⟨HO, ⟨Hk1, Hk2⟩, Ho, ⟨Hs1, Hs2, Hs3⟩, ⟨Hl1, Hl2, Hl3⟩⟩
  iapply (run6 m ρ K c) $$ [HO He2 He3 Hat Hc]
  · isplitr; · iexact Hrec
    isplitr; · iexact Hlev
    isplitl [HO]; · iexact HO
    isplitl [He2 He3]; · isplitl [He2] <;> iassumption
    isplitl [Hat] <;> iassumption
  iintro ⟨HO, Hze⟩
  iapply Hk
  isplitl [HO]; · iexact HO
  isplitl [Hx]; · iexact Hx
  isplitl [Ho]; · iexact Ho
  isplitl [Hl0 Hl1 Hl2 Hl3]
  · iapply (Entails.of_eq (totals_split m ρ c).symm)
    isplitl [Hl0]; · iexact Hl0
    isplitl [Hl1]; · iexact Hl1
    isplitl [Hl2] <;> iassumption
  isplitl [Hk0 Hk1 Hk2 Hk3]
  · isplitl [Hk0]; · iexact Hk0
    isplitl [Hk1]; · iexact Hk1
    isplitl [Hk2]; · iexact Hk2
    iapply (kept_last c); iexact Hk3
  isplitl [Hzb]; · iexact Hzb
  isplitl [Hze]; · iexact Hze
  isplitl [Hs0 Hs1 Hs2 Hs3]
  · isplitl [Hs0]; · iexact Hs0
    isplitl [Hs1]; · iexact Hs1
    isplitl [Hs2] <;> iassumption
  isplitl [Hr0]; · iexact Hr0
  isplitl [Hr1]; · iexact Hr1
  isplitl [Hr2] <;> iassumption

end Cert.KernelIdealProof

end
-- ==== Proof.KernelIdeal.Setup.lean ====
/-
# What the staging around the kernel needs

The kernel's one grid point as the staging sees it: what a device holds before it, what it leaves, and that the run of
the kernel takes the one to the other.
-/
module

public import proofs.«01_k».proof.Proof.KernelIdeal.Run

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × Fin 10 → ℕ)

/-! ## What a device starts from -/

/-- The tokens of the duties device `c` pays. -/
def payToks (c : Dev nD) : sProp 𝕄 :=
  iprop((dutyTok ER (barCell 0) 0 c ∗ dutyTok ER (barCell 1) 0 c ∗ dutyTok ER (barCell 2) 0 c ∗ dutyTok ER (barCell 3) 0 c)
    ∗ (dutyTok ER (endCell 0) 0 c ∗ dutyTok ER (endCell 1) 0 c ∗ dutyTok ER (endCell 2) 0 c ∗ dutyTok ER (endCell 3) 0 c)
    ∗ (sendTok c 0 ∗ sendTok c 1 ∗ sendTok c 2 ∗ sendTok c 3))

/-- One resource for each of device `c`'s ten semaphores. -/
def ten (Φ : GSem nD τ sig → sProp 𝕄) (c : Dev nD) : sProp 𝕄 :=
  iprop(Φ (barCell c) ∗ Φ (endCell c) ∗ Φ (sendCell c 0) ∗ Φ (sendCell c 1) ∗ Φ (sendCell c 2) ∗ Φ (sendCell c 3)
    ∗ Φ (recvCell c 0) ∗ Φ (recvCell c 1) ∗ Φ (recvCell c 2) ∗ Φ (recvCell c 3))

/-- Device `c`'s own part of the handshake: its places on its ten semaphores, and its tokens. -/
def linear (c : Dev nD) : sProp 𝕄 := iprop(ten (fun g => atPos ER g 0 ∅ 0) c ∗ payToks c)

/-- The handshake as device `c` starts it, under some numbering of the records. -/
def handStart (c : Dev nD) : sProp 𝕄 := iprop(∃ K, records m ρ K ∗ linear c)

/-- What device `c` may count on being paid. -/
def credStart (c : Dev nD) : sProp 𝕄 :=
  iprop(cred (tallyAt (barCell c) () 3) ∗ cred (tallyAt (endCell c) () 3) ∗ recvCred c 0 ∗ recvCred c 1 ∗ recvCred c 2)

def start (c : Dev nD) : sProp 𝕄 := iprop(handStart m ρ c ∗ credStart c ∗ levAts L lv)

/-- Before the kernel: the handshake, and the two scratch buffers. -/
def before (c : Dev nD) : sProp 𝕄 :=
  iprop(start m ρ c ∗ (∃ t, tHas c t) ∗ ∃ f : Buf (Elt F) (cM.view.loc (c : Thread nD τ)), (cM.view.loc (c : Thread nD τ)) ↦{fullShare} f)
/-- After the kernel: the two scratch buffers, and the ten semaphores at zero. -/
def after (c : Dev nD) : sProp 𝕄 :=
  iprop(ten (fun g => semVal g 0) c ∗ (∃ t, tHas c t) ∗ ∃ f : Buf (Elt F) (cM.view.loc (c : Thread nD τ)), (cM.view.loc (c : Thread nD τ)) ↦{fullShare} f)

/-! ## The staging's data -/

/-- Each window's array at launch, and the staged contents the kernel leaves. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => before m ρ c
    | ⟨_ + 1, _⟩ => after c
  q _ := fullShare
  owed t := match t with
    | ⟨0, _⟩ => owe0 c
    | ⟨_ + 1, _⟩ => 0

/-- A staged buffer of device `c` holding `X`. -/
abbrev staged (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
/-- A whole buffer with given contents, in two ways of writing it. -/
theorem owns_staged (c : Dev nD) (b : Ref sig .tc) (X : b.ty.Contents (Elt F)) :
    (owns (Ix := Unit) (Name := ℕ) (U := UU) (Lvl := ℕ) (c : Thread nD τ) (Memref.whole b) fullShare X : sProp 𝕄) = staged c b X := by
  unfold owns; simp only [Memref.view_whole, View.read_whole, View.set_whole]

/-- The input block is fetched before the only point. -/
theorem fetched (t : Fin cfg0.N) : (cfg0.win (0 : Fin 2)).fetch t = true := by rw [show t = t0_0 from fin_N0 t]; rfl

def bodyPre (c : Dev nD) : sProp 𝕄 :=
  iprop(before m ρ c ∗ (dats m ρ 0 c).owesAt () (Fin.castSucc t0_0)
    ∗ (∃ d, staged c cc0_stg0_0 ((dats m ρ 0 c).before (0 : Fin 2) t0_0 d))
    ∗ (∃ d, staged c cc0_stg1_0 ((dats m ρ 0 c).before (1 : Fin 2) t0_0 d)))
def bodyPost (c : Dev nD) : sProp 𝕄 :=
  iprop(after c ∗ (dats m ρ 0 c).owesAt () (Fin.succ t0_0) ∗ staged c cc0_stg0_0 (xstg m ρ c) ∗ staged c cc0_stg1_0 (outAt m ρ c))

/-- What the staging hands over is what the run of the kernel takes. -/
theorem pre_of_body (c : Dev nD) : bodyPre m ρ c ⊢ iprop(∃ K, records m ρ K ∗ levAts L lv ∗ preAll m ρ c) := by
  unfold bodyPre before start handStart linear ten payToks credStart preAll pre1
  iintro ⟨⟨⟨⟨%K, #Hrec, ⟨HpB, HpE, Hs0, Hs1, Hs2, Hs3, Hr0, Hr1, Hr2, Hr3⟩, Hbar, Hend, -, Hd⟩, ⟨HcB, HcE, HcR⟩, #Hlev⟩, Ht, ⟨%f, Hf⟩⟩,
    Ho, ⟨%d0, %g0, %hg0, Hx⟩, ⟨%d1, %g1, %hg1, Hout⟩⟩
  have hx : g0 = xstg m ρ c := by rw [hg0]; unfold Dat.before; rw [if_pos (fetched t0_0)]; rfl
  subst hx
  unfold Dat.owesAt Pipeline.owesWithin
  icases Ho with ⟨%W, %hW, HO⟩
  rw [show (dats m ρ 0 c).owed (Fin.castSucc t0_0) = owe0 c from rfl]
  iexists K
  isplitr; · iexact Hrec
  isplitr; · iexact Hlev
  isplitl [HO Hbar Hf HpB HcB Hd Hx Ht]
  · isplitl [HO]; · unfold Ow; iexists W; iexact HO
    isplitl [Hbar]; · iexact Hbar
    isplitl [Hf]; · iapply (slots_split c f); iexact Hf
    isplitl [HpB]; · iexact HpB
    isplitl [HcB]; · iexact HcB
    isplitl [Hd]; · iexact Hd
    isplitl [Hx]; · unfold xHas; iexact Hx
    iexact Ht
  isplitl [Hout]; · iexists g1; unfold oHas; iexact Hout
  isplitl [Hr0 Hr1 Hr2 Hr3]
  · isplitl [Hr0]; · iexact Hr0
    isplitl [Hr1]; · iexact Hr1
    isplitl [Hr2] <;> iassumption
  isplitl [HcR]; · iexact HcR
  isplitl [Hs0 Hs1 Hs2 Hs3]
  · isplitl [Hs0]; · iexact Hs0
    isplitl [Hs1]; · iexact Hs1
    isplitl [Hs2] <;> iassumption
  isplitl [Hend]; · iexact Hend
  isplitl [HpE] <;> iassumption

/-- What the run of the kernel leaves is what the staging expects. -/
theorem post_of_run (c : Dev nD) : postAll m ρ c ⊢ bodyPost m ρ c := by
  unfold postAll bodyPost after ten
  iintro ⟨HO, Hx, Ho, Ht, Hf, HzB, HzE, ⟨Hs0, Hs1, Hs2, Hs3⟩, Hr⟩
  isplitl [HzB HzE Hs0 Hs1 Hs2 Hs3 Hr Ht Hf]
  · isplitl [HzB HzE Hs0 Hs1 Hs2 Hs3 Hr]
    · isplitl [HzB]; · iexact HzB
      isplitl [HzE]; · iexact HzE
      isplitl [Hs0]; · iexact Hs0
      isplitl [Hs1]; · iexact Hs1
      isplitl [Hs2]; · iexact Hs2
      isplitl [Hs3] <;> iassumption
    isplitl [Ht]; · iexists (tot m ρ c); iexact Ht
    icases Hf with ⟨H0, Hf⟩
    unfold slotAny
    icases H0 with ⟨%f, H0⟩
    iapply (slots_join c f)
    unfold slotAny
    isplitl [H0]; · iexists f; iexact H0
    iexact Hf
  unfold Ow
  icases HO with ⟨%W, HO⟩
  isplitl [HO]
  · unfold Dat.owesAt Pipeline.owesWithin
    iexists W
    isplitr
    · ipureintro; exact fun _ _ => Or.inl trivial
    iexact HO
  unfold xHas oHas
  isplitl [Hx]
  · iexists _; isplitr; · (ipureintro; rfl)
    iexact Hx
  iexists _; isplitr; · (ipureintro; rfl)
  iexact Ho

set_option maxRecDepth 4000 in
/-- The kernel does at its point what the staging asks. -/
theorem body_obligation (c : Dev nD) : BodyObligation (dats (F := F) m ρ 0 c) (defs₀ (F := F)) 𝒱₀ () Set.univ := fun t => by
  rw [show t = t0_0 from fin_N0 t, bigSep_W0, bigSep_W0]
  simp only [owns_staged]
  show bodyPre m ρ c ⊢ wp frame (wpE (defs₀ (F := F)) 𝒱₀ (c : Thread nD τ) none) Set.univ
    (cc0_body xM (Memref.isWhole_whole _) oM (Memref.isWhole_whole _) tM (Memref.isWhole_whole _) cM (Memref.isWhole_whole _)
      cc0_scratch2 cc0_scratch3 cc0_scoped0) (fun _ => bodyPost m ρ c)
  rw [body_eq]
  iintro H
  ihave H := (pre_of_body m ρ c) $$ H
  icases H with ⟨%K, H⟩
  iapply (run_all m ρ K c) $$ H
  iapply (post_of_run m ρ c)

end Cert.KernelIdealProof

end
-- ==== Proof.KernelIdeal.Launch.lean ====
/-
# The launch of the kernel on the four devices

The launch deals each device its semaphores, its places and the tokens of the duties it pays; every fair run then ends,
with each array as the staging leaves it and every semaphore at zero.
-/
module

public import proofs.«01_k».proof.Proof.KernelIdeal.Setup
public import Idealize.ShloMosaic.Lib.Pipeline.CollectiveSegs

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × Fin 10 → ℕ)

/-! ## The semaphores dealt -/

/-- The kernel's own nine semaphores: all of the handshake's but the entry one. -/
abbrev osem (k : Fin 9) : SemLoc sig := csem k.succ
/-- The nine semaphores are the call's own, each once. -/
theorem ownSemFacts : Pipeline.OwnSemFacts cfg0.spec osem := by decide

/-- Every window is held whole. -/
theorem share_eq (c : Dev nD) (w : Fin cfg0.W) : (dats m ρ 0 c).share w = fullShare := by unfold Dat.share; split <;> rfl

/-- The ten semaphores of a device differ. -/
theorem csem_injective : Function.Injective csem := by decide
/-- The forty semaphores of the mesh differ. -/
theorem kcell_injective : Function.Injective (kcell : Dev nD × Fin 10 → GSem nD τ sig) := fun ck ck' h =>
  Prod.ext (cell_eq_iff.mp h).1 (csem_injective (cell_eq_iff.mp h).2)
def handCells : Finset (GSem nD τ sig) := Finset.univ.map ⟨kcell, kcell_injective⟩

/-- The tokens of the duties device `x.1` pays: an entry mark, an exit mark, a transfer's end at its source, and at its
    target, each for device `x.2.2`. -/
abbrev tokOf (x : Dev nD × Fin 4 × Dev nD) : GSem nD τ sig × ℕ × Fin 4 := match x.2.1 with
  | 0 => (barCell x.2.2, 0, x.1) | 1 => (endCell x.2.2, 0, x.1) | 2 => (sendCell x.1 x.2.2, 0, 0) | 3 => (recvCell x.2.2 x.1, 0, 0)

/-- Who pays a duty, of which kind, for whom, read off its token. -/
def ofTok (y : GSem nD τ sig × ℕ × Fin 4) : Dev nD × Fin 4 × Dev nD := match role y.1.2 with
  | .entry => (y.2.2, 0, y.1.1.1) | .exit => (y.2.2, 1, y.1.1.1) | .send d => (y.1.1.1, 2, d) | .recv s => (s, 3, y.1.1.1) | .other => (0, 0, 0)
/-- A token tells who pays it, of which kind, and for whom. -/
theorem ofTok_tokOf (x : Dev nD × Fin 4 × Dev nD) : ofTok (tokOf x) = x := by
  obtain ⟨c, j, d⟩ := x
  unfold ofTok
  fin_cases j <;> dsimp only [tokOf] <;> first | rw [role_bar] | rw [role_end] | rw [role_send] | rw [role_recv]
  all_goals rfl
def handToks : Finset (GSem nD τ sig × ℕ × Fin 4) := Finset.univ.map ⟨tokOf, Function.LeftInverse.injective ofTok_tokOf⟩

/-- The launch's ghost element: the staging's, and the handshake's. -/
def u₀ : UU := (initOf (Pipeline.cells cfgs cellOf_inj) (Pipeline.launchToks cfgs cellOf_inj), initOf handCells handToks)

/-- What it deals device `c`. -/
def G (c : Dev nD) : sProp 𝕄 :=
  iprop((bigSep Finset.univ fun k : Fin 10 => roundState ER (handRd m ρ) (kcell (c, k)) 0)
    ∗ (bigSep Finset.univ fun k : Fin 10 => iprop(atPos ER (kcell (c, k)) 0 ∅ 0 ∗ reached ER (kcell (c, k)) 0)) ∗ payToks c)

omit [FloatOps F] in
/-- A resource per semaphore, one by one. -/
theorem ten_eq (Φ : GSem nD τ sig → sProp 𝕄) (c : Dev nD) : (bigSep Finset.univ fun k : Fin 10 => Φ (kcell (c, k))) = ten Φ c := by
  rw [bigSep_univ_eq_bigSepL [0, 1, 2, 3, 4, 5, 6, 7, 8, 9] (by decide) (by decide)]; rfl

omit [FloatOps F] in
/-- Device `c`'s tokens, one by one. -/
theorem toks_eq (c : Dev nD) : (bigSep Finset.univ fun jd : Fin 4 × Dev nD => (dutyTok ER (tokOf (c, jd)).1 (tokOf (c, jd)).2.1 (tokOf (c, jd)).2.2 : sProp 𝕄)) ⊢ payToks c := by
  rw [bigSep_univ_prod, star4 (F := F), star4 (F := F), star4 (F := F), star4 (F := F), star4 (F := F)]
  unfold payToks sendTok
  iintro ⟨HB, HE, ⟨S0, S1, S2, S3⟩, R0, R1, R2, R3⟩
  isplitl [HB]; · iexact HB
  isplitl [HE]; · iexact HE
  isplitl [S0 R0]; · isplitl [S0] <;> iassumption
  isplitl [S1 R1]; · isplitl [S1] <;> iassumption
  isplitl [S2 R2]; · isplitl [S2] <;> iassumption
  isplitl [S3] <;> iassumption

/-- The start of the handshake gives each device its places and tokens. -/
theorem fund_hand : BI.own (ER (initOf handCells handToks)) ⊢ (|==> bigSep Finset.univ (G m ρ) : sProp 𝕄) := by
  have hX (Φ : GSem nD τ sig → sProp 𝕄) : bigSep handCells Φ = bigSep Finset.univ fun c : Dev nD => bigSep Finset.univ fun k : Fin 10 => Φ (kcell (c, k)) := by
    unfold handCells; rw [bigSep_map, bigSep_univ_prod]; rfl
  have hT : bigSep handToks (fun x => (dutyTok ER x.1 x.2.1 x.2.2 : sProp 𝕄)) ⊢ bigSep Finset.univ fun c : Dev nD => payToks c := by
    unfold handToks; rw [bigSep_map, bigSep_univ_prod]
    exact bigSep_mono fun c _ => toks_eq c
  iintro HX
  imod (Rounds.fund ER (handRd m ρ) handCells handToks) $$ HX with ⟨Hst, Hr, Hat, Htok⟩
  imodintro
  ihave Hst := (Entails.of_eq (hX fun g => roundState ER (handRd m ρ) g 0)) $$ Hst
  ihave Hat := (Entails.of_eq (hX fun g => atPos ER g 0 ∅ 0)) $$ Hat
  ihave Hr := (Entails.of_eq (hX fun g => reached ER g 0)) $$ Hr
  ihave Htok := hT $$ Htok
  unfold G; simp only [bigSep_sep']
  isplitl [Hst]; · iexact Hst
  isplitl [Hat Hr]
  · isplitl [Hat] <;> iassumption
  iexact Htok

omit [FloatOps F] in
/-- Nine of the ten semaphores are the kernel's own; -/
theorem ownSems_eq (c : Dev nD) : (Pipeline.ownSems0 (Ix := Unit) (Name := ℕ) (U := UU) (Lvl := ℕ) (Val := Elt F) (τ := τ) osem c : sProp 𝕄)
    = iprop(semVal (endCell c) 0 ∗ semVal (sendCell c 0) 0 ∗ semVal (sendCell c 1) 0 ∗ semVal (sendCell c 2) 0 ∗ semVal (sendCell c 3) 0
      ∗ semVal (recvCell c 0) 0 ∗ semVal (recvCell c 1) 0 ∗ semVal (recvCell c 2) 0 ∗ semVal (recvCell c 3) 0) := by
  rw [Pipeline.ownSems0_eq_of_list c osem [0, 1, 2, 3, 4, 5, 6, 7, 8] (by decide) (by decide)]; rfl
omit [FloatOps F] in
/-- the tenth is the mesh's. -/
theorem meshSems_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- The ten together. -/
theorem sems_eq (c : Dev nD) :
    iprop(unscopedSems0 c ∗ Pipeline.ownSems0 (Ix := Unit) (Name := ℕ) (U := UU) (Lvl := ℕ) (Val := Elt F) (τ := τ) osem c)
      = (ten (fun g => semVal g 0) c : sProp 𝕄) := by
  rw [ownSems_eq, meshSems_eq]; rfl

/-- What device `c` holds once its semaphores follow the schedule. -/
def dealt (c : Dev nD) : sProp 𝕄 :=
  iprop((bigSep Finset.univ fun k : Fin 10 => iprop(∃ κ : ℕ, cellInv ER (handRd m ρ) κ (kcell (c, k))))
    ∗ (bigSep Finset.univ fun k : Fin 10 => iprop(atPos ER (kcell (c, k)) 0 ∅ 0 ∗ reached ER (kcell (c, k)) 0)) ∗ payToks c)

/-- One device's semaphores at zero become its part of the handshake. -/
theorem deal (c : Dev nD) :
    iprop(Pipeline.ownSems0 (Ix := Unit) (Name := ℕ) (U := UU) (Lvl := ℕ) (Val := Elt F) (τ := τ) osem c ∗ unscopedSems0 c ∗ G m ρ c)
      ⊢ |={Set.univ}=> dealt m ρ c := by
  unfold G dealt
  iintro ⟨Hos, Hus, Hst, Hat, Htok⟩
  ihave Hv := (Entails.of_eq ((sems_eq (F := F) c).trans (ten_eq (fun g => semVal g 0) c).symm)) $$ [Hos Hus]
  · isplitl [Hus] <;> iassumption
  imod (show iprop((bigSep Finset.univ fun k : Fin 10 => semVal (kcell (c, k)) 0) ∗ bigSep Finset.univ fun k : Fin 10 => roundState ER (handRd m ρ) (kcell (c, k)) 0)
      ⊢ (|={Set.univ}=> bigSep Finset.univ fun k => iprop(∃ κ : ℕ, cellInv ER (handRd m ρ) κ (kcell (c, k))) : sProp 𝕄) from by
        rw [← bigSep_sep']
        exact (bigSep_mono fun k _ => (Rounds.body_intro ER (handRd m ρ) (kcell (c, k))).trans inv_alloc).trans (bigSep_fupd _ _)) $$ [Hv Hst] with Hinv
  · isplitl [Hv] <;> iassumption
  imodintro
  isplitl [Hinv]; · iexact Hinv
  isplitl [Hat] <;> iassumption

omit [FloatOps F] in
/-- What is given for good can be given to each. -/
theorem spread {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The shared records and a device's own places and tokens are what the device starts with. -/
theorem handStart_intro (c : Dev nD) :
    iprop(records m ρ K ∗ ((bigSep Finset.univ fun k : Fin 10 => (atPos ER (kcell (c, k)) 0 ∅ 0 : sProp 𝕄)) ∗ payToks c)) ⊢ handStart m ρ c := by
  unfold handStart linear
  rw [ten_eq (fun g => (atPos ER g 0 ∅ 0 : sProp 𝕄)) c]
  iintro H
  iexists K
  iexact H

/-- The records of all devices are shared by all. -/
theorem share_out : (bigSep Finset.univ fun c : Dev nD => dealt m ρ c) ⊢ bigSep Finset.univ (handStart m ρ) := by
  unfold dealt
  rw [bigSep_sep', bigSep_sep', ← bigSep_univ_prod (fun ck : Dev nD × Fin 10 => iprop(∃ κ : ℕ, cellInv ER (handRd m ρ) κ (kcell ck))),
    bigSep_congr (s := Finset.univ) (fun (c : Dev nD) _ => bigSep_sep' Finset.univ (fun k : Fin 10 => (atPos ER (kcell (c, k)) 0 ∅ 0 : sProp 𝕄)) (fun k => reached ER (kcell (c, k)) 0)),
    bigSep_sep', ← bigSep_univ_prod (fun ck : Dev nD × Fin 10 => (reached ER (kcell ck) 0 : sProp 𝕄))]
  iintro ⟨HI, ⟨Hat, #HR⟩, Htok⟩
  ihave HK := (BI.bigSep_exists_pi Finset.univ (fun (ck : Dev nD × Fin 10) (κ : ℕ) => (cellInv ER (handRd m ρ) κ (kcell ck) : sProp 𝕄))) $$ HI
  icases HK with ⟨%K, #HI⟩
  iapply (spread (R := records m ρ K) fun c _ => handStart_intro m ρ K c)
  isplitr
  · unfold records; isplitl; · iexact HI
    iexact HR
  · iapply (Entails.of_eq (bigSep_sep' Finset.univ (fun c : Dev nD => bigSep Finset.univ fun k : Fin 10 => (atPos ER (kcell (c, k)) 0 ∅ 0 : sProp 𝕄)) payToks).symm)
    isplitl [Hat]; · iexact Hat
    iexact Htok

/-- The same for all the devices at once. -/
theorem deal_all : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (handStart m ρ) :=
  ((bigSep_mono fun c _ => deal m ρ c).trans (bigSep_fupd _ _)).trans (BI.fupd_mono (share_out m ρ))

/-! ## The credits dealt -/

omit [FloatOps F] in
/-- What a semaphore may count on at launch is what it is owed. -/
theorem launch_credit (g : GSem nD τ sig) (n : ℕ) (h : (∑ d : Dev nD, owe0 d g ()) = n) :
    tallyOn g (launchCredit (Pipeline.owing owe0) 0 g) = (tallyAt g () n : CellTallies nD τ sig Unit) := by
  unfold tallyAt; refine congrArg _ (Finsupp.ext fun u => ?_); cases u
  rw [Pipeline.launchCredit_owing, Finsupp.single_eq_same, h]

omit [FloatOps F] in
/-- The credit of the receipt from device `s`, where there is one. -/
theorem recv_credit (c : Dev nD) (s : Fin 4) :
    (cred (tallyOn (recvCell c s) (launchCredit (Pipeline.owing owe0) 0 (recvCell c s))) : sProp 𝕄) ⊢ recvCred c s := by
  rw [launch_credit _ _ (owed_recv c s)]
  unfold recvCred
  by_cases h : s < c
  · rw [if_pos h, if_pos h]
  · rw [if_neg h, if_neg h]; iintro -; iempintro

omit [FloatOps F] in
/-- The credits dealt to a device are those of its waits. -/
theorem credits (c : Dev nD) : (Pipeline.launchCred owe0 c : sProp 𝕄) ⊢ credStart c := by
  unfold Pipeline.launchCred credStart
  have e := BI.bigSep_subset (Finset.subset_univ ([SemLoc.reg barS, SemLoc.reg endS, SemLoc.dma (recvS 0), SemLoc.dma (recvS 1), SemLoc.dma (recvS 2)] : List (SemLoc sig)).toFinset)
    (Φ := fun sm : SemLoc sig => (cred (tallyOn ((c.tc : Thread nD τ), sm) (launchCredit (Pipeline.owing owe0) 0 ((c.tc : Thread nD τ), sm))) : sProp 𝕄))
  refine e.trans ?_
  rw [bigSep_eq_bigSepL_of_eq [SemLoc.reg barS, SemLoc.reg endS, SemLoc.dma (recvS 0), SemLoc.dma (recvS 1), SemLoc.dma (recvS 2)] rfl (by decide)]
  show iprop(cred (tallyOn (barCell c) _) ∗ cred (tallyOn (endCell c) _) ∗ cred (tallyOn (recvCell c 0) _) ∗ cred (tallyOn (recvCell c 1) _) ∗ cred (tallyOn (recvCell c 2) _)) ⊢ _
  rw [launch_credit _ _ (owed_bar c), launch_credit _ _ (owed_end c)]
  exact sep_mono_right (sep_mono_right (BIClass.sep_mono (recv_credit c 0) (BIClass.sep_mono (recv_credit c 1) (recv_credit c 2))))

/-! ## What the launch asks -/

/-- What the launch leaves on a device is what its kernel starts with. -/
theorem start_intro (c : Dev nD) :
    iprop(Pipeline.unscopedRestP Pipeline.Prefetch.none cfg0.spec c (fun b => m ((c : Thread nD τ).loc b)) ∗ levAts L lv
        ∗ Pipeline.launchCred owe0 c ∗ prngReg c (ρ c) ∗ handStart m ρ c)
      ⊢ |={Set.univ}=> iprop(start m ρ c ∗ emp) := by
  iintro ⟨-, Hlev, Hcr, -, HG⟩
  ihave Hc := (credits (F := F) c) $$ Hcr
  imodintro
  unfold start
  isplitl
  · isplitl [HG]; · iexact HG
    isplitl [Hc] <;> iassumption
  · iempintro

/-- The kernel's precondition, from what the launch and the call's scratch buffers give. -/
theorem enter (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = before m ρ c from rfl, scopedRest0_eq]
  unfold before tHas
  iintro ⟨Hs, -, Hr⟩
  isplitl [Hs]; · iexact Hs
  iexact Hr

/-- The kernel's postcondition gives back the semaphores at zero and the scratch buffers. -/
theorem leave (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = after c from rfl, scopedRest0_eq]
  unfold after tHas
  rw [← sems_eq]
  iintro ⟨⟨Hu, Ho⟩, Hr⟩
  isplitl [Hu]; · iexact Hu
  isplitl [Ho]; · iexact Ho
  iexact Hr

/-- The staging's own semaphores are none of the handshake's. -/
theorem role_stage (w : Fin cfg0.W) (s : Fin (cfg0.win w).nbuf) : role (.dma ((cfg0.win w).sem s)) = .other := by
  revert w; decide

/-- Waiting for a staging transfer is always allowed. -/
theorem waits (c : Dev nD) : (levAts L lv : sProp 𝕄) ⊢ Pipeline.cellsWaits cfgs (dats m ρ) () 0 c :=
  Pipeline.cellsWaits_intro cfgs (dats m ρ) () 0 c fun w s t => by
    have h0 : Above 0 ((dats m ρ 0 c).owed t) := by
      rcases t with ⟨_ | _, ht⟩
      · exact above_owe0 c
      · exact above_zero 0
    exact mayWait_above h0 c _ (by unfold lv; rw [show role _ = _ from role_stage w s])

/-! ## The run -/

/-- What the array of window `w` holds at the end. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- Every fair run of the four devices ends, with every array as the staging leaves it and every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := owe0) (howed₀ := fun _ => rfl) (howedN := fun _ => rfl)
    (L := L) (lv := lv) (hL := L_of_ne) (hwaits := waits m ρ)
    (G := G m ρ) (G' := handStart m ρ) (u₀ := u₀)
    (hu₀ := by
      unfold u₀
      iintro Hu
      ihave H := (ownU_pair _ _) $$ Hu
      icases H with ⟨HP, HX⟩
      imod (fund_hand m ρ) $$ HX with HG
      imodintro
      isplitl [HP] <;> iassumption)
    (hglob := deal_all m ρ)
    (hA := fun _ _ => rfl) (hpf := fun _ k => k.elim0)
    (X := start m ρ) (Y := fun c => unscopedSems0 c) (Z := fun _ => iprop(emp))
    (hX := start_intro m ρ) (hin := enter m ρ) (hout := leave m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument's array holds what it held. -/
theorem final_arg (c : Dev nD) : finalA m ρ c (0 : Fin 2) = m (win0_0.arr.view.loc (c : Thread nD τ)) :=
  (dats (F := F) m ρ 0 c).arrAt_in (0 : Fin 2) rfl _

end Cert.KernelIdealProof

end
-- ==== Proof.KernelIdeal.Final.lean ====
/-
# What the two arrays hold after the run

The one block of each window is its whole array: the result array ends with what the kernel left staged, which is the
local prefix sums shifted by the offset from the left.
-/
module

public import proofs.«01_k».proof.Proof.KernelIdeal.Launch
public import proofs.«01_k».proof.Proof.Gen.KernelIdeal.Points

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × Fin 10 → ℕ)

/-- The result window's block starts at the array's first entry; -/
theorem out_origin : (fun a => (win0_1.index (0 : Fin 1)) a * main_v1.ty.shape.size a) = fun _ => 0 := funext fun a => by fin_cases a <;> decide
/-- so does the argument window's. -/
theorem arg_origin : (fun a => (win0_0.index (0 : Fin 1)) a * main_arg0.ty.shape.size a) = fun _ => 0 := funext fun a => by fin_cases a <;> decide

/-- A device stages its whole argument. -/
theorem xstg_eq (c : Dev nD) : xstg m ρ c = m ((c : Thread nD τ).loc main_arg0) :=
  Memref.read_access_unit_zero (Elt F) main_arg0 arg_origin (fun a => by fin_cases a <;> decide) _

/-- The result array ends with what was staged. -/
theorem final_out (c : Dev nD) : finalA m ρ c (1 : Fin 2) = outAt m ρ c := by
  have h : (win0_1.blk (0 : Fin 1)).view.read (Elt F) (finalA m ρ c (1 : Fin 2)) = outAt m ρ c := by
    unfold finalA
    rw [show cfg0.N = ((0 : Fin 1) : Fin cfg0.N).val + 1 from rfl, (dats m ρ 0 c).arrAt_succ (1 : Fin 2) (0 : Fin 1)]
    exact (congrArg _ (if_pos (flush0_1 _))).trans (View.read_write_univ _ _)
  exact (Memref.read_access_unit_zero (Elt F) main_v1 out_origin (fun a => by fin_cases a <;> decide) _).symm.trans h

/-- Every fair run ends with the argument unchanged, the result as computed, every semaphore at zero. -/
theorem run_out : θ_run defs (onTc (τ := τ) (main (F := F))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_v1) = outAt m ρ c)
      ∧ r.2.sem = fun _ => 0) :=
  (θ_run defs _ _).mono (fun _ h => ⟨fun c => ⟨(h.1 c (0 : Fin 2)).trans (final_arg m ρ c), (h.1 c (1 : Fin 2)).trans (final_out m ρ c)⟩, h.2⟩) (run_main m ρ)

end Cert.KernelIdealProof

end
-- ==== Proof.Value.Sums.lean ====
/-
# Running sums down a column

The vocabulary of the value claim: the entries of one column of a matrix, continued by zero past the last row, and the
two facts about sums of consecutive entries that both programs come down to.
-/
module

public import Idealize.ShloMosaic.Lib.Pointwise

@[expose] public section

noncomputable section

namespace Cert.PrefixValue

open Idealize.ShloMosaic

/-- Column `l` of a matrix of `R` rows, continued by zero. -/
def col {R C : ℕ} (x : (⟨2, ![R, C]⟩ : Shape).Idx → EReal) (l : Fin C) (n : ℕ) : EReal := if h : n < R then x (ix2 ⟨n, h⟩ l) else 0

/-- Inside the matrix a column's entry is the matrix's. -/
theorem col_of_lt {R C : ℕ} (x : (⟨2, ![R, C]⟩ : Shape).Idx → EReal) (l : Fin C) (n : Fin R) : col x l n.val = x (ix2 n l) := dif_pos n.isLt

/-- The first `n` entries of a sequence and the next `k` are its first `n + k`. -/
theorem sum_append (f : ℕ → EReal) (n k : ℕ) :
    (∑ i ∈ Finset.range n, f i) + ∑ i ∈ Finset.range k, f (n + i) = ∑ i ∈ Finset.range (n + k), f i := (Finset.sum_range_add f n k).symm

/-- A sum cut off after entry `j` by a mask of ones and zeros. -/
theorem sum_masked (f : ℕ → EReal) (N j : ℕ) (hj : j < N) (w : ℕ → EReal) (h1 : ∀ n, n ≤ j → w n = 1) (h0 : ∀ n, j < n → n < N → w n = 0) :
    ∑ n ∈ Finset.range N, w n * f n = ∑ n ∈ Finset.range (j + 1), f n := by
  obtain ⟨k, rfl⟩ : ∃ k, N = (j + 1) + k := ⟨N - (j + 1), by omega⟩
  rw [← sum_append (fun n => w n * f n),
    Finset.sum_eq_zero (s := Finset.range k) fun i hi => by rw [h0 _ (by omega) (by have := Finset.mem_range.mp hi; omega), zero_mul], add_zero]
  exact Finset.sum_congr rfl fun n hn => by rw [h1 n (by have := Finset.mem_range.mp hn; omega), one_mul]

/-- A window that reaches `N` entries back from entry `j` and meets zeros before entry `0` sums the entries up to `j`. -/
theorem sum_window (f : ℕ → EReal) (N j : ℕ) (hj : j ≤ N) :
    ∑ n ∈ Finset.range (N + 1), (if N ≤ j + n then f (j + n - N) else 0) = ∑ n ∈ Finset.range (j + 1), f n := by
  rw [show N + 1 = (N - j) + (j + 1) by omega, ← sum_append,
    Finset.sum_eq_zero (s := Finset.range (N - j)) fun i hi => if_neg (by have := Finset.mem_range.mp hi; omega), zero_add]
  exact Finset.sum_congr rfl fun n _ => by rw [if_pos (by omega)]; congr 1; omega

/-- A sum taken term by term from the left. -/
theorem foldl_sum {I : Type} (L : List I) (g : I → EReal) (z : EReal) : L.foldl (fun r i => r + g i) z = z + (L.map g).sum := by
  induction L generalizing z with
  | nil => simp
  | cons i L ih => rw [List.foldl_cons, ih, List.map_cons, List.sum_cons, add_assoc]

end Cert.PrefixValue

end
-- ==== Proof.Value.Local.lean ====
/-
# What one device computes from its own block

At exact arithmetic: the masked product inside one slice of 128 rows is that slice's running sum, the carried row is the
sum of all rows before the slice, and together they are the running sum of the device's block.
-/
module

public import proofs.«01_k».proof.Proof.KernelIdeal.Blocks
public import proofs.«01_k».proof.Proof.Value.Sums
public import Idealize.ShloMosaic.Lib.WordCmp

@[expose] public section

noncomputable section

namespace Cert.PrefixValue

open Cert.KernelIdeal Cert.KernelIdeal.Gen Cert.KernelIdealProof
open Idealize.ShloMosaic Idealize.ShloMosaic.TcCoe

/-- The mask: ones on and below the diagonal. -/
theorem mask_apply (r k : Fin 128) : (k0_pay2 (F := Ideal)) (ix2 r k) = if k.val ≤ r.val then (1 : EReal) else 0 := by
  have hr := r.isLt
  have hk := k.isLt
  pointwise [k0_pay2]
  rw [WordCmp.cmpi_sge_ofNat (by omega) (by omega)]
  by_cases h : k.val ≤ r.val
  · rw [if_pos h, decide_eq_true h]
    exact (congrArg (fun z : ℤ => ((z : ℝ) : EReal)) (show ((BitVec.ofBool true).setWidth 32).toInt = 1 by decide)).trans (by norm_num)
  · rw [if_neg h, decide_eq_false h]
    exact (congrArg (fun z : ℤ => ((z : ℝ) : EReal)) (show ((BitVec.ofBool false).setWidth 32).toInt = 0 by decide)).trans (by norm_num)

/-- A slice's running sum, from its product with the mask. -/
theorem product_apply (y : FVec Ideal S128x512 .bf16) (r : Fin 128) (l : Fin 512) :
    k0_pay7 (F := Ideal) y (ix2 r l) = ∑ n ∈ Finset.range (r.val + 1), col y l n := by
  pointwise [k0_pay7]
  rw [← sum_masked (col y l) 128 r.val r.isLt (fun n => if n ≤ r.val then 1 else 0) (fun n h => if_pos h) (fun n h _ => if_neg (by omega)),
    ← Fin.sum_univ_eq_sum_range]
  exact Finset.sum_congr rfl fun k _ => by rw [mask_apply, col_of_lt]

/-- The column totals of a block. -/
theorem total_apply (x : FVec Ideal S1024x512 .bf16) (l : Fin 512) :
    k0_pay1 (F := Ideal) x (ix2 (0 : Fin 1) l) = ∑ n ∈ Finset.range 1024, col x l n := by
  pointwise [k0_pay1]
  rw [← Fin.sum_univ_eq_sum_range]
  exact Finset.sum_congr rfl fun k _ => (col_of_lt x l k).symm

/-- A column of slice `b` is that stretch of the block's column. -/
theorem col_blk (x : FVec Ideal S1024x512 .bf16) (b : ℕ) (hb : b < 8) (l : Fin 512) (n : ℕ) (hn : n < 128) :
    col (blk (F := Ideal) x b) l n = col x l (128 * b + n) := by
  refine (col_of_lt (blk (F := Ideal) x b) l ⟨n, hn⟩).trans ((congrArg (fun q => x (ix2 q l)) (Fin.ext ?_)).trans
    (col_of_lt x l ⟨128 * b + n, by omega⟩).symm)
  exact Nat.mod_eq_of_lt (by omega)

/-- The running sum inside slice `b`, in the block's own rows. -/
theorem slice_apply (x : FVec Ideal S1024x512 .bf16) (b : ℕ) (hb : b < 8) (r : Fin 128) (l : Fin 512) :
    k0_pay7 (F := Ideal) (blk x b) (ix2 r l) = ∑ n ∈ Finset.range (r.val + 1), col x l (128 * b + n) := by
  rw [product_apply]
  exact Finset.sum_congr rfl fun n hn => col_blk x b hb l n (by have := Finset.mem_range.mp hn; omega)

/-- The carried row before slice `b` holds the sums of all the rows before it. -/
theorem carry_apply (x : FVec Ideal S1024x512 .bf16) (l : Fin 512) (b : ℕ) (hb : b ≤ 8) :
    carry (F := Ideal) x b (ix2 (0 : Fin 1) l) = ∑ n ∈ Finset.range (128 * b), col x l n := by
  induction b with
  | zero =>
    unfold carry
    pointwise [k0_pay3]
    rfl
  | succ b ih =>
    unfold carry
    pointwise
    rw [ih (by omega), show (127 : Fin 128) = ⟨127, by decide⟩ from rfl, slice_apply x b (by omega), sum_append]
    rfl

/-- Slice `b` of the output, before the rows of other devices are added. -/
theorem blockOut_apply (x : FVec Ideal S1024x512 .bf16) (b : ℕ) (hb : b < 8) (r : Fin 128) (l : Fin 512) :
    blockOut (F := Ideal) x b (ix2 r l) = ∑ n ∈ Finset.range (128 * b + (r.val + 1)), col x l n := by
  unfold blockOut
  pointwise
  rw [slice_apply x b hb, carry_apply x l b hb.le, add_comm, sum_append]

/-- The running sum of a device's own block. -/
theorem localOut_apply (x : FVec Ideal S1024x512 .bf16) (r : Fin 1024) (l : Fin 512) :
    localOut (F := Ideal) x (ix2 r l) = ∑ n ∈ Finset.range (r.val + 1), col x l n := by
  have hr := r.isLt
  refine (blockOut_apply x (r.val / 128) (by omega) ⟨r.val % 128, Nat.mod_lt _ (by decide)⟩ l).trans ?_
  exact congrArg (fun k => ∑ n ∈ Finset.range k, col x l n) (by show 128 * (r.val / 128) + (r.val % 128 + 1) = r.val + 1; omega)

/-- The output block: the device's own running sum and the row added at the end. -/
theorem outOf_apply (o : FVec Ideal S1024x512 .bf16) (w : FVec Ideal S1x512 .f32) (r : Fin 1024) (l : Fin 512) :
    outOf (F := Ideal) o w (ix2 r l) = o (ix2 r l) + w (ix2 (0 : Fin 1) l) := by
  unfold outOf
  pointwise

end Cert.PrefixValue

end
-- ==== Proof.Value.Reference.lean ====
/-
# What the reference computes

At exact arithmetic the reference's result at row `j` of a column is the sum of the column's entries up to row `j`.
-/
module

public import proofs.«01_k».proof.Proof.Gen.ReferenceIdeal.Run
public import proofs.«01_k».proof.Proof.Value.Sums
public import Idealize.ShloMosaic.PureOps.Ideal
public import Idealize.ShloMosaic.Lib.Routing.OpsOne

@[expose] public section

noncomputable section

namespace Cert.PrefixValue

open Cert.ReferenceIdeal Cert.ReferenceIdeal.Gen
open Idealize.ShloMosaic Idealize.ShloMosaic.TcCoe

/-- A window of `N + 1` rows and one column, padded by `N` rows in front, sums each column from its top down to the row. -/
theorem window_sums {R N C : ℕ} (hR : N + 1 = R) {u : Shape} (x : (⟨2, ![R, C]⟩ : Shape).Idx → EReal) (init : u.Idx → EReal)
    (h : (⟨2, ![R, C]⟩ : Shape).ReduceWindows (![R, 1] : Fin 2 → ℕ) ![1, 1] ![N, 0] ![0, 0] ⟨2, ![R, C]⟩) (hu : 0 < u.numel)
    (h0 : init (Shape.Idx.first hu) = 0) (j : Fin R) (l : Fin C) :
    Host.reduceWindow (· + ·) ![R, 1] ![1, 1] ![N, 0] ![0, 0] x init h hu (ix2 j l) = ∑ n ∈ Finset.range (j.val + 1), col x l n := by
  subst hR
  have hj := j.isLt
  have hl := l.isLt
  unfold Host.reduceWindow
  refine (foldl_sum _ _ _).trans ?_
  rw [h0, zero_add, ← Fin.sum_univ_def, ← sum_window (col x l) N j.val (by omega)]
  refine Eq.trans (Finset.sum_congr rfl fun n _ => ?_)
    ((Fin.sum_univ_eq_sum_range (fun n => if N ≤ j.val + n then col x l (j.val + n - N) else 0) _).trans
      (congrArg (fun k => ∑ n ∈ Finset.range k, if N ≤ j.val + n then col x l (j.val + n - N) else 0) (Routing.numel_col (N + 1))))
  have hrow : ((Routing.shape2 (N + 1) 1).rowMajor.symm n 0).val = n.val := by rw [Routing.symm_col]; rfl
  have hcol : ((Routing.shape2 (N + 1) 1).rowMajor.symm n 1).val = 0 := by rw [Routing.symm_col]; rfl
  have hn : n.val < N + 1 := (n.cast (Routing.numel_col _)).isLt
  have hp0 : j.val * 1 + ((Routing.shape2 (N + 1) 1).rowMajor.symm n 0).val = j.val + n.val := by rw [hrow, Nat.mul_one]
  have hp1 : l.val * 1 + ((Routing.shape2 (N + 1) 1).rowMajor.symm n 1).val = l.val := by rw [hcol, Nat.mul_one, Nat.add_zero]
  by_cases hle : N ≤ j.val + n.val
  · rw [if_pos hle]
    refine (dif_pos (Fin.forall_fin_two.2 ⟨?_, ?_⟩)).trans ?_
    · show N ≤ j.val * 1 + ((Routing.shape2 (N + 1) 1).rowMajor.symm n 0).val ∧ j.val * 1 + ((Routing.shape2 (N + 1) 1).rowMajor.symm n 0).val - N < N + 1
      rw [hp0]
      omega
    · show 0 ≤ l.val * 1 + ((Routing.shape2 (N + 1) 1).rowMajor.symm n 1).val ∧ l.val * 1 + ((Routing.shape2 (N + 1) 1).rowMajor.symm n 1).val - 0 < C
      rw [hp1]
      omega
    · refine Eq.trans (congrArg x (funext (Fin.forall_fin_two.2 ⟨Fin.ext ?_, Fin.ext ?_⟩))) (col_of_lt x l ⟨j.val + n.val - N, by omega⟩).symm
      · exact congrArg (· - N) hp0
      · exact hp1
  · rw [if_neg hle]
    exact dif_neg fun hin => hle (le_of_le_of_eq (hin 0).1 hp0)

/-- The same for the host's window sum. -/
theorem host_window_sums {R N C : ℕ} (hR : N + 1 = R) {u : Shape} (x : FVec Ideal ⟨2, ![R, C]⟩ .bf16) (init : FVec Ideal u .bf16)
    (h : (⟨2, ![R, C]⟩ : Shape).ReduceWindows (![R, 1] : Fin 2 → ℕ) ![1, 1] ![N, 0] ![0, 0] ⟨2, ![R, C]⟩) (hu : 0 < u.numel)
    (h0 : init (Shape.Idx.first hu) = (0 : EReal)) (j : Fin R) (l : Fin C) :
    Host.reduceWindowAdd (F := Ideal) ![R, 1] ![1, 1] ![N, 0] ![0, 0] x init h hu (ix2 j l) = ∑ n ∈ Finset.range (j.val + 1), col x l n :=
  window_sums hR x (fun _ : (⟨0, ![]⟩ : Shape).Idx => init (Shape.Idx.first hu)) h (by decide) h0 j l

/-- The reference's result on the whole array. -/
def refOut (V : FVec Ideal S4096x512 .bf16) : FVec Ideal S4096x512 .bf16 :=
  Host.reduceWindowAdd ![4096, 1] ![1, 1] ![4095, 0] ![0, 0] V (broadcastInDim S_ ![] bcast_S_S_ (constant S_ .bf16 0x0000#16))
    reduceWindows_S4096x512_S4096x512_w4096s1p4095_0_w1s1p0_0 h_S_

/-- The reference's sums start from zero. -/
theorem start_zero : (broadcastInDim S_ ![] bcast_S_S_ (constant (F := Ideal) S_ .bf16 0x0000#16)) (Shape.Idx.first h_S_) = (0 : EReal) := by
  pointwise

/-- Row `j` of the reference's result, in column `l`: the sum of the column's entries up to row `j`. -/
theorem refOut_apply (V : FVec Ideal S4096x512 .bf16) (j : Fin 4096) (l : Fin 512) :
    refOut V (ix2 j l) = ∑ n ∈ Finset.range (j.val + 1), col V l n :=
  host_window_sums (R := 4096) (N := 4095) (C := 512) (by decide) V _ reduceWindows_S4096x512_S4096x512_w4096s1p4095_0_w1s1p0_0 h_S_ start_zero j l

end Cert.PrefixValue

end
-- ==== Proof.Value.Equal.lean ====
/-
# The devices' blocks are the blocks of the reference's result

Device `c` holds rows `1024 c` to `1024 c + 1023` of the array. Its own running sums, with the column totals of the devices
before it, are the running sums of the whole array on those rows.
-/
module

public import proofs.«01_k».proof.Proof.Value.Local
public import proofs.«01_k».proof.Proof.Value.Reference

@[expose] public section

noncomputable section

namespace Cert.PrefixValue

open Cert.KernelIdeal Cert.KernelIdeal.Gen Cert.KernelIdealProof
open Idealize.ShloMosaic Idealize.ShloMosaic.TcCoe

/-- The whole array's block on device `c`. -/
abbrev part (V : FVec Ideal ⟨2, ![4096, 512]⟩ .bf16) (c : Fin 4) : FVec Ideal S1024x512 .bf16 :=
  Layout.block ⟨2, ![1024, 512]⟩ ⟨2, ![4096, 512]⟩ 0 4 c V

/-- An entry of device `c`'s block. -/
theorem part_apply (V : FVec Ideal ⟨2, ![4096, 512]⟩ .bf16) (c : Fin 4) (r : Fin 1024) (l : Fin 512) :
    part V c (ix2 r l) = V (ix2 ⟨1024 * c.val + r.val, by have := c.isLt; have := r.isLt; omega⟩ l) := by
  refine congrArg V (funext (Fin.forall_fin_two.2 ⟨Fin.ext ?_, Fin.ext ?_⟩))
  · show c.val * 1024 + r.val = 1024 * c.val + r.val
    omega
  · rfl

/-- A column of device `c`'s block is a stretch of the array's column. -/
theorem col_part (V : FVec Ideal ⟨2, ![4096, 512]⟩ .bf16) (c : Fin 4) (l : Fin 512) (n : ℕ) (hn : n < 1024) :
    col (part V c) l n = col V l (1024 * c.val + n) := by
  have hc := c.isLt
  exact (col_of_lt (part V c) l ⟨n, hn⟩).trans ((part_apply V c ⟨n, hn⟩ l).trans (col_of_lt V l ⟨1024 * c.val + n, by omega⟩).symm)

/-- The first rows of device `c`'s block, summed as a stretch of the array's column. -/
theorem sum_part (V : FVec Ideal ⟨2, ![4096, 512]⟩ .bf16) (c : Fin 4) (l : Fin 512) (k : ℕ) (hk : k ≤ 1024) :
    ∑ n ∈ Finset.range k, col (part V c) l n = ∑ n ∈ Finset.range k, col V l (1024 * c.val + n) :=
  Finset.sum_congr rfl fun n hn => col_part V c l n (by have := Finset.mem_range.mp hn; omega)

/-- A device's column totals, appended to the sums of the rows before it. -/
theorem total_append (V : FVec Ideal ⟨2, ![4096, 512]⟩ .bf16) (c : Fin 4) (l : Fin 512) :
    (∑ n ∈ Finset.range (1024 * c.val), col V l n) + k0_pay1 (F := Ideal) (part V c) (ix2 (0 : Fin 1) l)
      = ∑ n ∈ Finset.range (1024 * (c.val + 1)), col V l n := by
  rw [total_apply, sum_part V c l 1024 le_rfl, sum_append]
  rfl

/-- A guarded row: the row where it comes from the left, zero elsewhere. -/
theorem pick_apply (c : Dev nD) (s : Fin 3) (t : FVec Ideal S1x512 .f32) (l : Fin 512) :
    Scalar.select (Scalar.cmpi .sgt (vpos c) (BitVec.ofNat 32 s.val)) t (k0_pay25 (F := Ideal)) (ix2 (0 : Fin 1) l)
      = if s.val < c.val then t (ix2 (0 : Fin 1) l) else (0 : EReal) := by
  by_cases h : s.val < c.val
  · rw [if_pos h]
    exact congrFun (if_pos ((gt_vpos c s).mpr h)) _
  · rw [if_neg h]
    refine (congrFun (if_neg fun h' => h ((gt_vpos c s).mp h')) _).trans ?_
    pointwise [k0_pay25]

/-- The guarded sum, entry by entry: the totals of the devices at the left. -/
theorem offs_apply (c : Dev nD) (t0 t1 t2 : FVec Ideal S1x512 .f32) (l : Fin 512) :
    offs (F := Ideal) (vpos c) t0 t1 t2 (ix2 (0 : Fin 1) l)
      = 0 + (if 0 < c.val then t0 (ix2 (0 : Fin 1) l) else 0) + (if 1 < c.val then t1 (ix2 (0 : Fin 1) l) else 0)
        + (if 2 < c.val then t2 (ix2 (0 : Fin 1) l) else 0 : EReal) := by
  have hz : k0_pay25 (F := Ideal) (ix2 (0 : Fin 1) l) = (0 : EReal) := by pointwise [k0_pay25]
  exact congrArg₂ (· + ·) (congrArg₂ (· + ·) (congrArg₂ (· + ·) hz (pick_apply c 0 t0 l)) (pick_apply c 1 t1 l)) (pick_apply c 2 t2 l)

/-- The row added at the end on device `c`: the sums of all the rows before it. -/
theorem left_apply (V : FVec Ideal ⟨2, ![4096, 512]⟩ .bf16) (c : Dev nD) (l : Fin 512) :
    offs (F := Ideal) (vpos c) (k0_pay1 (part V 0)) (k0_pay1 (part V 1)) (k0_pay1 (part V 2)) (ix2 (0 : Fin 1) l)
      = ∑ n ∈ Finset.range (1024 * c.val), col V l n := by
  rw [offs_apply]
  have e0 := total_append V 0 l
  have e1 := total_append V 1 l
  have e2 := total_append V 2 l
  rw [show 1024 * (0 : Fin 4).val = 0 from rfl, Finset.sum_range_zero] at e0
  match c with
  | ⟨0, _⟩ => simp
  | ⟨1, _⟩ => simpa using e0
  | ⟨2, h⟩ =>
    rw [if_pos (show 0 < Fin.val ⟨2, h⟩ from Nat.zero_lt_two), if_pos (show 1 < Fin.val ⟨2, h⟩ from Nat.one_lt_two),
      if_neg (show ¬ 2 < Fin.val ⟨2, h⟩ from lt_irrefl 2), add_zero, e0]
    exact e1
  | ⟨3, h⟩ =>
    rw [if_pos (show 0 < Fin.val ⟨3, h⟩ from Nat.zero_lt_succ 2), if_pos (show 1 < Fin.val ⟨3, h⟩ from Nat.succ_lt_succ Nat.zero_lt_two),
      if_pos (show 2 < Fin.val ⟨3, h⟩ from Nat.lt_succ_self 2), e0]
    exact (congrArg (· + _) e1).trans e2

/-- Device `c`'s output is its block of the reference's result. -/
theorem out_eq (V : FVec Ideal ⟨2, ![4096, 512]⟩ .bf16) (c : Dev nD) :
    outOf (F := Ideal) (localOut (part V c)) (offs (vpos c) (k0_pay1 (part V 0)) (k0_pay1 (part V 1)) (k0_pay1 (part V 2)))
      = part (refOut V) c := by
  funext i
  obtain ⟨r, l, rfl⟩ : ∃ (r : Fin 1024) (l : Fin 512), i = ix2 r l := ⟨i 0, i 1, eq_ix2 i⟩
  have hr := r.isLt
  rw [outOf_apply, localOut_apply, left_apply, part_apply, refOut_apply, sum_part V c l (r.val + 1) (by omega), add_comm, sum_append]
  rfl

end Cert.PrefixValue

end
-- ==== Proof.lean ====
/-
# The certificate

Five claims: the kernel runs and leaves its argument and its semaphores as they were, at machine floats and at exact
arithmetic; so does the reference; the exact kernel is the kernel's own text; and every device's result is its block of
the reference's result.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelIdeal.Final
public import proofs.«01_k».proof.Proof.Kernel.Final
public import proofs.«01_k».proof.Proof.Value.Equal
public import Idealize.ShloMosaic.Adequacy
public import Idealize.ShloMosaic.Init

@[expose] public section

noncomputable section

namespace Cert.Proof

open Idealize.ShloMosaic Idealize.ShloMosaic.TcCoe Idealize.SL.Sem

/-- The kernel at machine floats runs, its argument unchanged and every counter back at zero. -/
theorem kernel_quiescent : Cert.quiescent_Kernel := by
  intro m g _
  exact (θ_run Cert.Kernel.defs _ _).mono (fun _ h => ⟨fun c => (h.1 c).1, h.2⟩) (Cert.KernelProof.run_out (F := Bits) m g)

/-- The kernel at exact arithmetic runs, its argument unchanged and every counter back at zero. -/
theorem kernelIdeal_quiescent : Cert.quiescent_KernelIdeal := by
  intro m g _
  exact (θ_run Cert.KernelIdeal.defs _ _).mono (fun _ h => ⟨fun c => (h.1 c).1, h.2⟩) (Cert.KernelIdealProof.run_out (F := Ideal) m g)

/-- The reference runs, its argument unchanged; it has no semaphores. -/
theorem reference_quiescent : Cert.quiescent_ReferenceIdeal := by
  intro m g _
  exact (θ_run Cert.ReferenceIdeal.defs _ _).mono (fun r h => ⟨fun c => (h c).2, sem_eq_zero_of_no_sems (by decide) r.2⟩)
    (Cert.ReferenceIdeal.Value.run m g)

/-- At exact arithmetic every device's result is its block of the reference's result. -/
theorem value : Cert.algebraic_KernelIdeal_ReferenceIdeal := by
  intro m g m' g' _ hm
  refine ⟨Cert.PrefixValue.refOut (m' (((0 : Dev Cert.ReferenceIdeal.nD).tc : Thread Cert.ReferenceIdeal.nD Cert.ReferenceIdeal.τ).loc
    Cert.ReferenceIdeal.main_arg0)), ?_, ?_⟩
  · refine (θ_run Cert.KernelIdeal.defs _ _).mono (fun r h c => ⟨(h.1 c).2.trans ?_, (h.1 c).1⟩) (Cert.KernelIdealProof.run_out (F := Ideal) m g)
    have hx := fun d => (Cert.KernelIdealProof.xstg_eq (F := Ideal) m g d).trans (hm d)
    unfold Cert.KernelIdealProof.outAt Cert.KernelIdealProof.offAt Cert.KernelIdealProof.tot
    rw [hx c, hx 0, hx 1, hx 2]
    exact Cert.PrefixValue.out_eq _ c
  · exact (θ_run Cert.ReferenceIdeal.defs _ _).mono (fun _ h => h 0) (Cert.ReferenceIdeal.Value.run m' g')

/-- All the claims. -/
theorem claim : Cert.Claim := ⟨Cert.Kernel.Gen.facts, Cert.KernelIdeal.Gen.facts, Cert.ReferenceIdeal.Gen.facts,
  kernel_quiescent, kernelIdeal_quiescent, reference_quiescent, trivial, value⟩

end Cert.Proof

end
